-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v5)) (v1 : (c : Dev Cert.KernelIdeal.nD) → Buf (Elt Ideal) ((c.tc : Thread Cert.KernelIdeal.nD Cert.KernelIdeal.τ).loc Cert.KernelIdeal.main_v6)) (v2 : (c : Dev Cert.KernelIdeal.nD) → Buf (Elt Ideal) ((c.tc : Thread Cert.KernelIdeal.nD Cert.KernelIdeal.τ).loc Cert.KernelIdeal.main_v7)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5) = v0 c
          ∧ r.2.mem ((c.tc : Thread Cert.KernelIdeal.nD Cert.KernelIdeal.τ).loc Cert.KernelIdeal.main_v6) = v1 c
          ∧ r.2.mem ((c.tc : Thread Cert.KernelIdeal.nD Cert.KernelIdeal.τ).loc Cert.KernelIdeal.main_v7) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v5) = v0 c
          ∧ r.2.mem ((c.tc : Thread Cert.ReferenceIdeal.nD Cert.ReferenceIdeal.τ).loc Cert.ReferenceIdeal.main_v6) = v1 c
          ∧ r.2.mem ((c.tc : Thread Cert.ReferenceIdeal.nD Cert.ReferenceIdeal.τ).loc Cert.ReferenceIdeal.main_v7) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S4x4096x2048 : Shape := ⟨3, ![4, 4096, 2048]⟩
abbrev S2048 : Shape := ⟨1, ![2048]⟩
abbrev S2048x8192 : Shape := ⟨2, ![2048, 8192]⟩
abbrev S8192 : Shape := ⟨1, ![8192]⟩
abbrev S16384x2048 : Shape := ⟨2, ![16384, 2048]⟩
abbrev S1x2048 : Shape := ⟨2, ![1, 2048]⟩
abbrev S1x8192 : Shape := ⟨2, ![1, 8192]⟩
abbrev S16384x8192 : Shape := ⟨2, ![16384, 8192]⟩
abbrev S16384x1 : Shape := ⟨2, ![16384, 1]⟩
abbrev S256x2048 : Shape := ⟨2, ![256, 2048]⟩
abbrev S256x8192 : Shape := ⟨2, ![256, 8192]⟩
abbrev S256x1 : Shape := ⟨2, ![256, 1]⟩
abbrev S256 : Shape := ⟨1, ![256]⟩
abbrev S2048x1024 : Shape := ⟨2, ![2048, 1024]⟩
abbrev S256x1024 : Shape := ⟨2, ![256, 1024]⟩
abbrev S1x1024 : Shape := ⟨2, ![1, 1024]⟩
abbrev S4x4096x8192 : Shape := ⟨3, ![4, 4096, 8192]⟩
abbrev S4x4096x1 : Shape := ⟨3, ![4, 4096, 1]⟩

abbrev nBuf : Space → Nat
  | .hbm => 15
  | .vmem => 12
  | .smem => 0
  | _ => 0

abbrev bufTy : (tb : Table) → Fin (tcTables nBuf tb) → BufTy
  | .hbm, ⟨0, _⟩ => ⟨S4x4096x2048, .f32⟩
  | .hbm, ⟨1, _⟩ => ⟨S2048, .f32⟩
  | .hbm, ⟨2, _⟩ => ⟨S2048x8192, .fp8e4m3⟩
  | .hbm, ⟨3, _⟩ => ⟨S8192, .f32⟩
  | .hbm, ⟨4, _⟩ => ⟨S8192, .f32⟩
  | .hbm, ⟨5, _⟩ => ⟨S16384x2048, .f32⟩
  | .hbm, ⟨6, _⟩ => ⟨S1x2048, .f32⟩
  | .hbm, ⟨7, _⟩ => ⟨S1x8192, .f32⟩
  | .hbm, ⟨8, _⟩ => ⟨S1x8192, .f32⟩
  | .hbm, ⟨9, _⟩ => ⟨S16384x8192, .f32⟩
  | .hbm, ⟨10, _⟩ => ⟨S16384x2048, .fp8e4m3⟩
  | .hbm, ⟨11, _⟩ => ⟨S16384x1, .f32⟩
  | .hbm, ⟨12, _⟩ => ⟨S4x4096x8192, .f32⟩
  | .hbm, ⟨13, _⟩ => ⟨S4x4096x2048, .fp8e4m3⟩
  | .hbm, ⟨14, _⟩ => ⟨S4x4096x1, .f32⟩
  | .local _ .vmem, ⟨0, _⟩ => ⟨S256x2048, .f32⟩
  | .local _ .vmem, ⟨1, _⟩ => ⟨S256x2048, .f32⟩
  | .local _ .vmem, ⟨2, _⟩ => ⟨S1x2048, .f32⟩
  | .local _ .vmem, ⟨3, _⟩ => ⟨S2048x8192, .fp8e4m3⟩
  | .local _ .vmem, ⟨4, _⟩ => ⟨S1x8192, .f32⟩
  | .local _ .vmem, ⟨5, _⟩ => ⟨S1x8192, .f32⟩
  | .local _ .vmem, ⟨6, _⟩ => ⟨S256x8192, .f32⟩
  | .local _ .vmem, ⟨7, _⟩ => ⟨S256x8192, .f32⟩
  | .local _ .vmem, ⟨8, _⟩ => ⟨S256x2048, .fp8e4m3⟩
  | .local _ .vmem, ⟨9, _⟩ => ⟨S256x2048, .fp8e4m3⟩
  | .local _ .vmem, ⟨10, _⟩ => ⟨S256x1, .f32⟩
  | .local _ .vmem, ⟨11, _⟩ => ⟨S256x1, .f32⟩
  | _, _ => ⟨S4x4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4_0 : Ref sig .tc := ⟨.hbm, 9, rfl⟩
abbrev main_v4_1 : Ref sig .tc := ⟨.hbm, 10, rfl⟩
abbrev main_v4_2 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg7_1 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7
abbrev cc0_sem6_0 : DmaSem sig := 8
abbrev cc0_sem6_1 : DmaSem sig := 9
abbrev cc0_sem7_0 : DmaSem sig := 10
abbrev cc0_sem7_1 : DmaSem sig := 11

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S2048x8192 .fp8e4m3 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x8192 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x8192 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S256x8192 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x2048 .fp8e4m3 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x1 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== ReferenceIdeal.lean ====
abbrev S4x4096x2048 : Shape := ⟨3, ![4, 4096, 2048]⟩
abbrev S2048 : Shape := ⟨1, ![2048]⟩
abbrev S2048x8192 : Shape := ⟨2, ![2048, 8192]⟩
abbrev S8192 : Shape := ⟨1, ![8192]⟩
abbrev S16384x2048 : Shape := ⟨2, ![16384, 2048]⟩
abbrev S1x2048 : Shape := ⟨2, ![1, 2048]⟩
abbrev S1x8192 : Shape := ⟨2, ![1, 8192]⟩
abbrev S16384x8192 : Shape := ⟨2, ![16384, 8192]⟩
abbrev S16384x1 : Shape := ⟨2, ![16384, 1]⟩
abbrev S16384 : Shape := ⟨1, ![16384]⟩
abbrev S1x254 : Shape := ⟨2, ![1, 254]⟩
abbrev S16384x254 : Shape := ⟨2, ![16384, 254]⟩
abbrev S4x4096x8192 : Shape := ⟨3, ![4, 4096, 8192]⟩
abbrev S4x4096x1 : Shape := ⟨3, ![4, 4096, 1]⟩

abbrev nBuf : Space → Nat
  | .hbm => 15
  | .vmem => 8
  | .smem => 0
  | _ => 0

abbrev bufTy : (tb : Table) → Fin (tcTables nBuf tb) → BufTy
  | .hbm, ⟨0, _⟩ => ⟨S4x4096x2048, .f32⟩
  | .hbm, ⟨1, _⟩ => ⟨S2048, .f32⟩
  | .hbm, ⟨2, _⟩ => ⟨S2048x8192, .fp8e4m3⟩
  | .hbm, ⟨3, _⟩ => ⟨S8192, .f32⟩
  | .hbm, ⟨4, _⟩ => ⟨S8192, .f32⟩
  | .hbm, ⟨5, _⟩ => ⟨S16384x2048, .f32⟩
  | .hbm, ⟨6, _⟩ => ⟨S1x2048, .f32⟩
  | .hbm, ⟨7, _⟩ => ⟨S1x8192, .f32⟩
  | .hbm, ⟨8, _⟩ => ⟨S1x8192, .f32⟩
  | .hbm, ⟨9, _⟩ => ⟨S16384x8192, .f32⟩
  | .hbm, ⟨10, _⟩ => ⟨S16384x2048, .fp8e4m3⟩
  | .hbm, ⟨11, _⟩ => ⟨S16384x1, .f32⟩
  | .hbm, ⟨12, _⟩ => ⟨S4x4096x8192, .f32⟩
  | .hbm, ⟨13, _⟩ => ⟨S4x4096x2048, .fp8e4m3⟩
  | .hbm, ⟨14, _⟩ => ⟨S4x4096x1, .f32⟩
  | .local _ .vmem, ⟨0, _⟩ => ⟨S16384x2048, .f32⟩
  | .local _ .vmem, ⟨1, _⟩ => ⟨S1x2048, .f32⟩
  | .local _ .vmem, ⟨2, _⟩ => ⟨S2048x8192, .fp8e4m3⟩
  | .local _ .vmem, ⟨3, _⟩ => ⟨S1x8192, .f32⟩
  | .local _ .vmem, ⟨4, _⟩ => ⟨S1x8192, .f32⟩
  | .local _ .vmem, ⟨5, _⟩ => ⟨S16384x8192, .f32⟩
  | .local _ .vmem, ⟨6, _⟩ => ⟨S16384x2048, .fp8e4m3⟩
  | .local _ .vmem, ⟨7, _⟩ => ⟨S16384x1, .f32⟩
  | _, _ => ⟨S4x4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4_0 : Ref sig .tc := ⟨.hbm, 9, rfl⟩
abbrev main_v4_1 : Ref sig .tc := ⟨.hbm, 10, rfl⟩
abbrev main_v4_2 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := .none

abbrev stage0_0 : Fin 1 → Memref sig .tc .vmem S16384x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S2048x8192 .fp8e4m3 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1x8192 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S1x8192 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S16384x8192 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S16384x2048 .fp8e4m3 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S16384x1 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
-- ==== Proof.Exponent.lean ====
/-
  THE EXPONENT OF ONE TOKEN, as mathematics. A token's scale is a power of two read off the largest magnitude `a` of
  its row. The kernel finds the biased exponent of `t = a / 448` by eight comparisons, one per bit of the exponent
  field; the reference counts the powers of two that do not exceed `t`. This module says that the two are the same
  integer, and that the two ways of turning it into a power of two — placing the exponent field of a word, and
  raising two to it — agree.
-/
module

public import Idealize.ShloMosaic.PureOps.Ideal.Laws
public import Idealize.ShloMosaic.Lib.WordCmp

@[expose] public section

noncomputable section

namespace Cert.Exponent

open Idealize.ShloMosaic

/-! ## Powers of two by their biased exponent -/

/-- The extended real that a float32 word with exponent field `c` and every other bit zero denotes: zero, a power of
    two, or infinity. -/
def power (c : ℕ) : EReal := if c = 0 then 0 else if 255 ≤ c then ⊤ else (((2 : ℝ) ^ ((c : ℤ) - 127) : ℝ) : EReal)

/-- The three bit fields of the word `c <<< 23` for `c` below 256: sign zero, exponent `c`, significand zero. -/
theorem fields : ∀ c : Fin 256, ((BitVec.ofNat 32 c.val <<< 23).extractLsb' 31 1 == 1#1) = false
    ∧ ((BitVec.ofNat 32 c.val <<< 23).extractLsb' 23 8).toNat = c.val
    ∧ ((BitVec.ofNat 32 c.val <<< 23).extractLsb' 0 23).toNat = 0 := by decide +kernel

/-- The word with exponent field `c` denotes `power c`. -/
theorem ofBits_shift (c : ℕ) (hc : c < 256) : Ideal.ofBits .f32 (BitVec.ofNat 32 c <<< 23) = power c := by
  obtain ⟨h1, h2, h3⟩ := fields ⟨c, hc⟩
  simp only at h1 h2 h3
  unfold Ideal.ofBits Ideal.ieee
  simp only [show 8 + 23 = 31 from rfl]
  rw [h1, h2, h3]
  unfold power
  by_cases h0 : c = 0
  · subst h0; simp
  · by_cases h255 : c = 255
    · subst h255; simp
    · have h4 : ¬ 255 ≤ c := by omega
      have h5 : ¬ c = 2 ^ 8 - 1 := by omega
      rw [if_neg h5, if_neg h0, if_neg h0, if_neg h4]
      rw [EReal.coe_eq_coe_iff]
      have e : (2 : ℝ) ^ ((c : ℤ) - 127) = 8388608 * (2 : ℝ) ^ ((c : ℤ) - 127 - 23) := by
        rw [zpow_sub₀ (by norm_num : (2 : ℝ) ≠ 0) _ 23]; norm_num; ring
      rw [e]
      norm_num

/-- The shift a kernel prints, of a word below 256. -/
theorem shli_23 (c : ℕ) : IntOp.shli .vector (BitVec.ofNat 32 c) 23#32 = BitVec.ofNat 32 c <<< 23 := by
  unfold IntOp.shli
  rw [if_pos (by decide)]
  rfl

/-- A power is not negative. -/
theorem power_nonneg (c : ℕ) : 0 ≤ power c := by
  unfold power
  split_ifs
  · exact le_rfl
  · exact le_top
  · exact EReal.coe_nonneg.mpr (by positivity)

/-- A larger exponent gives a power at least as large. -/
theorem power_mono {c d : ℕ} (h : c ≤ d) : power c ≤ power d := by
  by_cases hc : c = 0
  · subst hc; exact power_nonneg d
  by_cases hd : 255 ≤ d
  · have : power d = ⊤ := by unfold power; rw [if_neg (by omega), if_pos hd]
    rw [this]; exact le_top
  unfold power
  rw [if_neg hc, if_neg (by omega), if_neg (by omega), if_neg hd]
  exact EReal.coe_le_coe_iff.mpr (zpow_le_zpow_right₀ (by norm_num) (by omega))

/-! ## The field found by comparisons -/

/-- One comparison of the search: the bit `b` joins the exponent found so far unless `t` is below that power. -/
def step (t : EReal) (b c : ℕ) : ℕ := if t < power (c + b) then c else c + b

/-- The exponent field of `t`: eight comparisons, from the highest bit down. -/
def field (t : EReal) : ℕ :=
  step t 1 (step t 2 (step t 4 (step t 8 (step t 16 (step t 32 (step t 64 (step t 128 0)))))))

/-- What is known of `t` when the bits below `2 * b` are still to be found: it is at least the power found, and below
    the next candidate. -/
def Between (t : EReal) (w c : ℕ) : Prop := power c ≤ t ∧ c + w ≤ 256 ∧ (c + w = 256 ∨ t < power (c + w))

/-- One comparison halves the range in which the exponent lies. -/
theorem between_step {t : EReal} {b c : ℕ} (h : Between t (b + b) c) : Between t b (step t b c) := by
  obtain ⟨h1, h2, h3⟩ := h
  unfold step
  split_ifs with hlt
  · exact ⟨h1, by omega, Or.inr hlt⟩
  · refine ⟨not_lt.mp hlt, by omega, ?_⟩
    rw [show c + b + b = c + (b + b) by ring]
    exact h3

/-- The eight comparisons leave the one exponent whose power is at most `t` while the next one is above it. -/
theorem between_field {t : EReal} (ht : 0 ≤ t) : Between t 1 (field t) := by
  have h0 : Between t (128 + 128) 0 := ⟨by simpa [power] using ht, by norm_num, Or.inl rfl⟩
  exact between_step (between_step (between_step (between_step (between_step (between_step (between_step
    (between_step h0)))))))

/-- The field is below 256. -/
theorem field_lt {t : EReal} (ht : 0 ≤ t) : field t < 256 := by
  have := (between_field ht).2.1
  omega

/-- An exponent up to 255 is at most the field exactly when its power is at most `t`. -/
theorem le_field_iff {t : EReal} (ht : 0 ≤ t) {c : ℕ} (hc : c ≤ 255) : c ≤ field t ↔ power c ≤ t := by
  obtain ⟨h1, h2, h3⟩ := between_field ht
  constructor
  · intro h; exact (power_mono h).trans h1
  · intro h
    by_contra hlt
    rcases h3 with h3 | h3
    · omega
    · exact absurd (h.trans_lt h3) (not_lt.mpr (power_mono (by omega)))

/-- The field is 255 exactly of an infinity. -/
theorem field_eq_255_iff {t : EReal} (ht : 0 ≤ t) : field t = 255 ↔ t = ⊤ := by
  have h := le_field_iff ht (c := 255) le_rfl
  have hp : power 255 = ⊤ := by simp [power]
  rw [hp, top_le_iff] at h
  rw [← h]
  have := field_lt ht
  omega

/-! ## The field found by counting -/

/-- Two to the integer `k - 126`, as the exact power function gives it. -/
theorem exp2_power (k : ℕ) (hk : k < 254) : Ideal.exp2 ((((k : ℤ) - 126 : ℤ) : ℝ) : EReal) = power (k + 1) := by
  rw [Ideal.exp2_coe]
  unfold power
  rw [if_neg (by omega), if_neg (by omega)]
  congr 1
  show (2 : ℝ) ^ (((k : ℤ) - 126 : ℤ) : ℝ) = _
  rw [Real.rpow_intCast]
  congr 1
  push_cast; ring

/-- The number of the 254 powers of two of the normal range that do not exceed `t` is the field, an infinity's capped. -/
theorem card_powers {t : EReal} (ht : 0 ≤ t) :
    (Finset.univ.filter fun k : Fin 254 => power (k.val + 1) ≤ t).card = min (field t) 254 := by
  have e : (Finset.univ.filter fun k : Fin 254 => power (k.val + 1) ≤ t)
      = Finset.univ.filter fun k : Fin 254 => k.val < field t := by
    ext k
    have hk := k.isLt
    simp only [Finset.mem_filter, Finset.mem_univ, true_and]
    rw [← le_field_iff ht (by omega : k.val + 1 ≤ 255)]
    exact Nat.succ_le_iff
  rw [e, Fin.card_filter_val_lt]
  omega

end Cert.Exponent

end
-- ==== Proof.Words.lean ====
/-
  THE EXPONENT AS WORDS, at one token. The kernel keeps the exponent as a 32-bit word: a search over its eight bits,
  a word that is the exponent of the scale, and the float whose exponent field is a given word. The reference keeps it
  as a 32-bit word too: a count, the exponent of the scale, and two raised to a word. This module states both in
  scalars, operation by operation as the programs do, and proves them equal.
-/
module

public import proofs.«01_k».proof.Proof.Exponent
public import Idealize.ShloMosaic.Lib.WordCmp
public import Idealize.ShloMosaic.Lib.IndicatorCount

@[expose] public section

noncomputable section

namespace Cert.Exponent

open Idealize.ShloMosaic

/-! ## The kernel's words -/

/-- One comparison of the kernel's search: the bit `b` joins the exponent `c` unless `|t|` is below the power. -/
def searchStep (t : Ideal .f32) (b c : BitVec 32) : BitVec 32 :=
  Scalar.select (FloatOps.cmpf .olt (FloatOps.absf t) (FloatOps.ofBits .f32 (IntOp.shli .vector (IntOp.addi c b) 23#32)))
    c (IntOp.addi c b)

/-- The kernel's biased exponent of `t`. -/
def searchWord (t : Ideal .f32) : BitVec 32 :=
  searchStep t 1#32 (searchStep t 2#32 (searchStep t 4#32 (searchStep t 8#32 (searchStep t 16#32 (searchStep t 32#32
    (searchStep t 64#32 (searchStep t 128#32 0#32)))))))

/-- The kernel's exponent of the scale, from the largest magnitude `a` and the biased exponent `n`. -/
def scaleWord (a : Ideal .f32) (n : BitVec 32) : BitVec 32 :=
  Scalar.select (IntOp.ori (IntOp.ori (IntOp.cmpi .eq n 0#32) (IntOp.cmpi .eq n 255#32))
    (FloatOps.cmpf .oeq a (Scalar.ofBits .f32 0x00000000#32))) 0#32 (IntOp.subi n 126#32)

/-- The bits of the kernel's power of two at the exponent `e`: the exponent field set, zero below the normal range. -/
def powBits (e : BitVec 32) : BitVec 32 :=
  Scalar.select (IntOp.cmpi .sle (IntOp.addi 127#32 e) 0#32) 0#32
    (IntOp.shli .vector (Scalar.select (IntOp.cmpi .sge (IntOp.addi 127#32 e) 255#32) 255#32 (IntOp.addi 127#32 e)) 23#32)

/-- The kernel's power of two at the exponent `e`. -/
def powWord (e : BitVec 32) : Ideal .f32 := FloatOps.ofBits .f32 (powBits e)

/-! ## The reference's words -/

/-- The reference's exponent of the scale, from the largest magnitude `a`, from `t` and from the count `n`. -/
def countScaleWord (a t : Ideal .f32) (n : BitVec 32) : BitVec 32 :=
  Scalar.select (FloatOps.cmpf .oeq a (Scalar.ofBits .f32 0x00000000#32)) 0#32
    (Scalar.select (IntOp.ori (IntOp.cmpi .eq n 0#32) (FloatOps.cmpf .oeq t (Scalar.ofBits .f32 0x7F800000#32))) 0#32
      (IntOp.subi n 126#32))

/-- The reference's power of two at the exponent `e`: the exact power, infinite above the range and zero below it. -/
def powExact (e : BitVec 32) : Ideal .f32 :=
  Scalar.select (IntOp.cmpi .sgt e 127#32) (Scalar.ofBits .f32 0x7F800000#32)
    (Scalar.select (IntOp.cmpi .slt e 4294967170#32) (Scalar.ofBits .f32 0x00000000#32)
      (FloatOps.exp2 (FloatOps.sitofp .f32 e)))

/-- Whether the power of two of lane `k` is at most `t`, as the reference's one-bit word. -/
def lane (t : Ideal .f32) (k : BitVec 32) : BitVec 1 :=
  FloatOps.cmpf .oge t (FloatOps.exp2 (FloatOps.sitofp .f32 (IntOp.subi k 126#32)))

/-! ## The search finds the field -/

/-- A number that is not negative is its own magnitude. -/
theorem absf_of_nonneg {t : Ideal .f32} (ht : (0 : EReal) ≤ t) : (FloatOps.absf t : Ideal .f32) = t := by
  show max (t : EReal) (-t) = t
  exact max_eq_left ((EReal.neg_le_zero.mpr ht).trans ht)

/-- A choice by a one-bit word that a decision gives is the choice by the decision. -/
theorem select_ofBool {α : Type} (p : Prop) [Decidable p] (x y : α) :
    Scalar.select (BitVec.ofBool (decide p)) x y = if p then x else y := by
  unfold Scalar.select
  by_cases h : p <;> simp [h]

/-- One comparison on words is the comparison on numbers. -/
theorem searchStep_eq {t : Ideal .f32} (ht : (0 : EReal) ≤ t) (b c : ℕ) (h : c + b < 256) :
    searchStep t (BitVec.ofNat 32 b) (BitVec.ofNat 32 c) = BitVec.ofNat 32 (step t b c) := by
  unfold searchStep step
  have ea : IntOp.addi (BitVec.ofNat 32 c) (BitVec.ofNat 32 b) = BitVec.ofNat 32 (c + b) :=
    (BitVec.ofNat_add c b).symm
  rw [absf_of_nonneg ht, ea, shli_23]
  rw [show (FloatOps.ofBits .f32 (BitVec.ofNat 32 (c + b) <<< 23) : Ideal .f32) = power (c + b) from ofBits_shift _ h]
  show Scalar.select (BitVec.ofBool (decide ((t : EReal) < power (c + b)))) _ _ = _
  rw [select_ofBool]
  split_ifs <;> rfl

/-- The kernel's biased exponent is the field. -/
theorem searchWord_eq {t : Ideal .f32} (ht : (0 : EReal) ≤ t) : searchWord t = BitVec.ofNat 32 (field t) := by
  have hs : ∀ b c : ℕ, step t b c ≤ c + b := fun b c => by unfold step; split_ifs <;> omega
  unfold searchWord field
  rw [searchStep_eq ht 128 0 (by omega)]
  have h1 := hs 128 0
  generalize step t 128 0 = c1 at *
  rw [searchStep_eq ht 64 c1 (by omega)]
  have h2 := hs 64 c1
  generalize step t 64 c1 = c2 at *
  rw [searchStep_eq ht 32 c2 (by omega)]
  have h3 := hs 32 c2
  generalize step t 32 c2 = c3 at *
  rw [searchStep_eq ht 16 c3 (by omega)]
  have h4 := hs 16 c3
  generalize step t 16 c3 = c4 at *
  rw [searchStep_eq ht 8 c4 (by omega)]
  have h5 := hs 8 c4
  generalize step t 8 c4 = c5 at *
  rw [searchStep_eq ht 4 c5 (by omega)]
  have h6 := hs 4 c5
  generalize step t 4 c5 = c6 at *
  rw [searchStep_eq ht 2 c6 (by omega)]
  have h7 := hs 2 c6
  generalize step t 2 c6 = c7 at *
  rw [searchStep_eq ht 1 c7 (by omega)]

/-! ## The count is the field -/

/-- The lane's integer, as the word `k - 126` reads. -/
theorem toInt_sub : ∀ k : Fin 255, (IntOp.subi (BitVec.ofNat 32 k.val) 126#32).toInt = (k.val : ℤ) - 126 := by
  decide +kernel

/-- Two raised to the word `k - 126`, below the top exponent. -/
theorem exp2_word (k : ℕ) (hk : k < 254) :
    (FloatOps.exp2 (FloatOps.sitofp .f32 (IntOp.subi (BitVec.ofNat 32 k) 126#32)) : Ideal .f32) = power (k + 1) := by
  rw [← exp2_power k hk, ← toInt_sub ⟨k, by omega⟩]
  rfl

/-- A lane holds a one exactly when its power is at most `t`. -/
theorem lane_eq_one_iff (t : Ideal .f32) (k : ℕ) (hk : k < 254) :
    lane t (BitVec.ofNat 32 k) = 1#1 ↔ power (k + 1) ≤ (t : EReal) := by
  unfold lane
  rw [exp2_word k hk]
  show BitVec.ofBool (decide (power (k + 1) ≤ (t : EReal))) = 1#1 ↔ _
  by_cases h : power (k + 1) ≤ (t : EReal) <;> simp [h]

/-- The sum of the 254 lanes, each a zero or a one, is the field, an infinity's capped. -/
theorem sum_lanes {t : Ideal .f32} (ht : (0 : EReal) ≤ t) :
    (Finset.univ : Finset (Fin 254)).fold IntOp.addi 0#32 (fun k => (lane t (BitVec.ofNat 32 k.val)).setWidth 32)
      = BitVec.ofNat 32 (min (field t) 254) := by
  rw [IndicatorCount.fold_addi_setWidth_eq_card, ← card_powers ht]
  congr 2
  ext k
  simp only [Finset.mem_filter, Finset.mem_univ, true_and]
  exact lane_eq_one_iff t k.val k.isLt

/-! ## The exponent of the scale -/

/-- The word of plus infinity denotes it. -/
theorem ofBits_inf : (Scalar.ofBits .f32 0x7F800000#32 : Ideal .f32) = (⊤ : EReal) := by
  show Ideal.ofBits .f32 0x7F800000#32 = _
  rw [show (0x7F800000#32 : BitVec 32) = BitVec.ofNat 32 255 <<< 23 by decide +kernel, ofBits_shift 255 (by omega)]
  simp [power]

/-- The zero word denotes zero. -/
theorem ofBits_zero : (Scalar.ofBits .f32 0x00000000#32 : Ideal .f32) = (0 : EReal) := by
  show Ideal.ofBits .f32 0x00000000#32 = _
  rw [show (0x00000000#32 : BitVec 32) = BitVec.ofNat 32 0 <<< 23 by decide +kernel, ofBits_shift 0 (by omega)]
  simp [power]

/-- A disjunction of one-bit words that decisions give. -/
theorem ori_ofBool (p q : Prop) [Decidable p] [Decidable q] :
    IntOp.ori (BitVec.ofBool (decide p)) (BitVec.ofBool (decide q)) = BitVec.ofBool (decide (p ∨ q)) := by
  by_cases hp : p <;> by_cases hq : q <;> simp [hp, hq, IntOp.ori]

/-- An equality of words is a decision. -/
theorem cmpi_eq (x y : BitVec 32) : IntOp.cmpi .eq x y = BitVec.ofBool (decide (x = y)) := by
  by_cases h : x = y
  · subst h; simp [IntOp.cmpi]
  · have hb : (x == y) = false := beq_eq_false_iff_ne.mpr h
    simp [IntOp.cmpi, hb, h]

/-- A word below 256 is the zero word exactly when its number is zero. -/
theorem ofNat_eq_zero : ∀ n : Fin 256, BitVec.ofNat 32 n.val = 0#32 ↔ n.val = 0 := by decide +kernel

/-- A word below 256 is the word 255 exactly when its number is 255. -/
theorem ofNat_eq_255 : ∀ n : Fin 256, BitVec.ofNat 32 n.val = 255#32 ↔ n.val = 255 := by decide +kernel

/-- The kernel's exponent of the scale, in numbers: zero of a row of zeros and of a `t` outside the normal range, else
    the field less 126. -/
theorem scaleWord_eq (n : ℕ) (hn : n < 256) (a : Ideal .f32) :
    scaleWord a (BitVec.ofNat 32 n) = if (a : EReal) = 0 ∨ n = 0 ∨ n = 255 then 0#32
      else IntOp.subi (BitVec.ofNat 32 n) 126#32 := by
  unfold scaleWord
  rw [cmpi_eq, cmpi_eq, ofBits_zero,
    show (FloatOps.cmpf .oeq a (0 : EReal) : BitVec 1) = BitVec.ofBool (decide ((a : EReal) = 0)) from rfl,
    ori_ofBool, ori_ofBool, select_ofBool]
  refine if_congr ?_ rfl rfl
  have h0 := ofNat_eq_zero ⟨n, hn⟩
  have h1 := ofNat_eq_255 ⟨n, hn⟩
  simp only at h0 h1
  rw [h0, h1]
  exact Or.comm

/-- The reference's exponent of the scale, in numbers, is the same. -/
theorem countScaleWord_eq (n : ℕ) (hn : n < 256) (a t : Ideal .f32) (ht : n = 255 ↔ (t : EReal) = ⊤) :
    countScaleWord a t (BitVec.ofNat 32 (min n 254)) = if (a : EReal) = 0 ∨ n = 0 ∨ n = 255 then 0#32
      else IntOp.subi (BitVec.ofNat 32 n) 126#32 := by
  unfold countScaleWord
  rw [cmpi_eq, ofBits_zero, ofBits_inf,
    show (FloatOps.cmpf .oeq a (0 : EReal) : BitVec 1) = BitVec.ofBool (decide ((a : EReal) = 0)) from rfl,
    show (FloatOps.cmpf .oeq t (⊤ : EReal) : BitVec 1) = BitVec.ofBool (decide ((t : EReal) = ⊤)) from rfl,
    ori_ofBool, select_ofBool, select_ofBool]
  have h0 := ofNat_eq_zero ⟨min n 254, by omega⟩
  simp only at h0
  by_cases ha : (a : EReal) = 0
  · rw [if_pos ha, if_pos (Or.inl ha)]
  rw [if_neg ha]
  by_cases h : n = 0 ∨ n = 255
  · rw [if_pos (Or.inr h), if_pos]
    rcases h with h | h
    · exact Or.inl (h0.mpr (by omega))
    · exact Or.inr (ht.mp h)
  · have h1 : ¬ (BitVec.ofNat 32 (min n 254) = 0#32 ∨ (t : EReal) = ⊤) := by
      rw [h0, ← ht]; omega
    have h2 : ¬ ((a : EReal) = 0 ∨ n = 0 ∨ n = 255) := not_or.mpr ⟨ha, h⟩
    rw [if_neg h1, if_neg h2, min_eq_left (by omega)]

/-- The two exponents of the scale are the same word, and it is `k - 126` for a `k` from 0 to 254. -/
theorem exponents_agree {t : Ideal .f32} (ht : (0 : EReal) ≤ t) (a : Ideal .f32) :
    scaleWord a (searchWord t) = countScaleWord a t (BitVec.ofNat 32 (min (field t) 254)) := by
  rw [searchWord_eq ht, scaleWord_eq _ (field_lt ht), countScaleWord_eq _ (field_lt ht) a t (field_eq_255_iff ht)]

/-- The exponent of the scale is `k - 126` for a `k` from 0 to 254. -/
theorem scaleWord_range {t : Ideal .f32} (ht : (0 : EReal) ≤ t) (a : Ideal .f32) :
    ∃ k : Fin 255, scaleWord a (searchWord t) = IntOp.subi (BitVec.ofNat 32 k.val) 126#32 := by
  rw [searchWord_eq ht, scaleWord_eq _ (field_lt ht)]
  have hn := field_lt ht
  have e126 : (0#32 : BitVec 32) = IntOp.subi (BitVec.ofNat 32 126) 126#32 := by decide +kernel
  generalize field t = n at *
  split_ifs with h
  · exact ⟨⟨126, by omega⟩, e126⟩
  · have h255 : n ≠ 255 := fun e => h (Or.inr (Or.inr e))
    exact ⟨⟨n, by omega⟩, rfl⟩

/-! ## The powers of two -/

/-- The bits of the kernel's power of two at the exponent `k - 126`: the exponent field `k + 1`. -/
theorem powBits_sub : ∀ k : Fin 255, powBits (IntOp.subi (BitVec.ofNat 32 k.val) 126#32) = BitVec.ofNat 32 (k.val + 1) <<< 23 := by
  decide +kernel

/-- The reference's comparison with the top of the range, at the exponent `k - 126`. -/
theorem sgt_sub : ∀ k : Fin 255, IntOp.cmpi .sgt (IntOp.subi (BitVec.ofNat 32 k.val) 126#32) 127#32
    = BitVec.ofBool (decide (k.val = 254)) := by decide +kernel

/-- The reference's comparison with the bottom of the range, at the exponent `k - 126`. -/
theorem slt_sub : ∀ k : Fin 255, IntOp.cmpi .slt (IntOp.subi (BitVec.ofNat 32 k.val) 126#32) 4294967170#32 = 0#1 := by
  decide +kernel

/-- The two powers of two agree at every exponent of a scale. -/
theorem pow_agree (k : Fin 255) :
    powWord (IntOp.subi (BitVec.ofNat 32 k.val) 126#32) = powExact (IntOp.subi (BitVec.ofNat 32 k.val) 126#32) := by
  have hk := k.isLt
  unfold powWord powExact
  rw [powBits_sub k, sgt_sub k, slt_sub k, select_ofBool,
    show (FloatOps.ofBits .f32 (BitVec.ofNat 32 (k.val + 1) <<< 23) : Ideal .f32) = power (k.val + 1) from
      ofBits_shift _ (by omega)]
  split_ifs with h
  · rw [ofBits_inf, h]; simp [power]
  · rw [show ∀ x y : Ideal .f32, Scalar.select 0#1 x y = y from fun x y => by simp [Scalar.select]]
    exact (exp2_word k.val (by omega)).symm

/-- The negated exponent `126 - k` is again of the form `k' - 126` unless it leaves the range at the bottom. -/
theorem neg_sub : ∀ k : Fin 253, IntOp.subi 0#32 (IntOp.subi (BitVec.ofNat 32 k.val) 126#32)
    = IntOp.subi (BitVec.ofNat 32 (252 - k.val)) 126#32 := by decide +kernel

/-- The two negated exponents below the range give zero bits. -/
theorem below : ∀ k : Fin 2, powBits (IntOp.subi 0#32 (IntOp.subi (BitVec.ofNat 32 (k.val + 253)) 126#32)) = 0#32
    ∧ IntOp.cmpi .sgt (IntOp.subi 0#32 (IntOp.subi (BitVec.ofNat 32 (k.val + 253)) 126#32)) 127#32 = 0#1
    ∧ IntOp.cmpi .slt (IntOp.subi 0#32 (IntOp.subi (BitVec.ofNat 32 (k.val + 253)) 126#32)) 4294967170#32 = 1#1 := by
  decide +kernel

/-- The two powers of two agree at every negated exponent of a scale. -/
theorem pow_neg_agree (k : Fin 255) :
    powWord (IntOp.subi 0#32 (IntOp.subi (BitVec.ofNat 32 k.val) 126#32))
      = powExact (IntOp.subi 0#32 (IntOp.subi (BitVec.ofNat 32 k.val) 126#32)) := by
  have hk := k.isLt
  by_cases h : k.val < 253
  · have e := neg_sub ⟨k.val, h⟩
    simp only at e
    rw [e]
    exact pow_agree ⟨252 - k.val, by omega⟩
  · obtain ⟨h1, h2, h3⟩ := below ⟨k.val - 253, by omega⟩
    simp only [show k.val - 253 + 253 = k.val by omega] at h1 h2 h3
    unfold powWord powExact
    rw [h1, h2, h3]
    simp only [Scalar.select]
    rfl

/-! ## One token -/

/-- The exponent of the scale of a token whose largest magnitude is `a`, as the kernel finds it. -/
def tokenExp (a : Ideal .f32) : BitVec 32 :=
  scaleWord a (searchWord (FloatOps.mulf a (Scalar.ofBits .f32 0x3B124925#32)))

/-- The token's scale. -/
def tokenScale (a : Ideal .f32) : Ideal .f32 := powWord (tokenExp a)

/-- The reciprocal of the token's scale. -/
def tokenInverse (a : Ideal .f32) : Ideal .f32 := powWord (IntOp.subi 0#32 (tokenExp a))

/-- The code of an entry `x` of a token whose largest magnitude is `a`: scaled and clipped to the format's range. -/
def tokenCode (a x : Ideal .f32) : Ideal .f32 :=
  FloatOps.minimumf (Scalar.ofBits .f32 0x43E00000#32)
    (FloatOps.maximumf (Scalar.ofBits .f32 0xC3E00000#32) (FloatOps.mulf x (tokenInverse a)))

/-- The reference's count at one token: the sum of the lanes of `t`. -/
def tokenCount (t : Ideal .f32) : BitVec 32 :=
  (Finset.univ : Finset (Fin 254)).fold IntOp.addi 0#32 (fun k => (lane t (BitVec.ofNat 32 k.val)).setWidth 32)

/-- The reference's exponent at one token. -/
def tokenCountExp (a : Ideal .f32) : BitVec 32 :=
  countScaleWord a (FloatOps.mulf a (Scalar.ofBits .f32 0x3B124925#32))
    (tokenCount (FloatOps.mulf a (Scalar.ofBits .f32 0x3B124925#32)))

/-- The constant `1 / 448`, rounded, is not negative. -/
theorem recip_nonneg : (0 : EReal) ≤ (Scalar.ofBits .f32 0x3B124925#32 : Ideal .f32) := by
  show (0 : EReal) ≤ Ideal.ieee 8 23 0x3B124925#32
  unfold Ideal.ieee
  rw [show ((0x3B124925#32 : BitVec 32).extractLsb' (8 + 23) 1 == 1#1) = false by decide +kernel,
    show ((0x3B124925#32 : BitVec 32).extractLsb' 23 8).toNat = 118 by decide +kernel]
  simp only
  rw [if_neg (by norm_num), if_neg (by norm_num)]
  apply EReal.coe_nonneg.mpr
  rw [if_neg (by decide)]
  positivity

/-- `t` is not negative. -/
theorem t_nonneg {a : Ideal .f32} (ha : (0 : EReal) ≤ a) :
    (0 : EReal) ≤ (FloatOps.mulf a (Scalar.ofBits .f32 0x3B124925#32) : Ideal .f32) :=
  mul_nonneg (a := (a : EReal)) ha recip_nonneg

/-- The reference's exponent at one token is the kernel's. -/
theorem tokenCountExp_eq {a : Ideal .f32} (ha : (0 : EReal) ≤ a) : tokenCountExp a = tokenExp a := by
  unfold tokenCountExp tokenExp tokenCount
  rw [sum_lanes (t_nonneg ha)]
  exact (exponents_agree (t_nonneg ha) a).symm

/-- The reference's scale at one token is the kernel's. -/
theorem powExact_scale {a : Ideal .f32} (ha : (0 : EReal) ≤ a) : powExact (tokenCountExp a) = tokenScale a := by
  rw [tokenCountExp_eq ha]
  unfold tokenScale
  obtain ⟨k, hk⟩ := scaleWord_range (t_nonneg ha) a
  have e : tokenExp a = IntOp.subi (BitVec.ofNat 32 k.val) 126#32 := hk
  rw [e]
  exact (pow_agree k).symm

/-- The reference's reciprocal at one token is the kernel's. -/
theorem powExact_inverse {a : Ideal .f32} (ha : (0 : EReal) ≤ a) :
    powExact (IntOp.subi 0#32 (tokenCountExp a)) = tokenInverse a := by
  rw [tokenCountExp_eq ha]
  unfold tokenInverse
  obtain ⟨k, hk⟩ := scaleWord_range (t_nonneg ha) a
  have e : tokenExp a = IntOp.subi (BitVec.ofNat 32 k.val) 126#32 := hk
  rw [e]
  exact (pow_neg_agree k).symm

end Cert.Exponent

end
-- ==== Proof.Row.lean ====
/-
  ONE ROW OF THE LAYER, as mathematics: a row of quotients `q`, its largest magnitude, its scale, its codes, and one
  entry of the linear layer over the codes.
-/
module

public import proofs.«01_k».proof.Proof.Words

@[expose] public section

noncomputable section

namespace Cert.Row

open Idealize.ShloMosaic Cert.Exponent

/-- The largest magnitude of a row. -/
def rowMax (q : Fin 2048 → Ideal .f32) : Ideal .f32 :=
  (Finset.univ : Finset (Fin 2048)).fold max (FloatOps.ofBits .f32 0xFF800000#32 : Ideal .f32)
    (fun k => (FloatOps.absf (q k) : Ideal .f32))

/-- The scale of a row. -/
def rowScale (q : Fin 2048 → Ideal .f32) : Ideal .f32 := tokenScale (rowMax q)

/-- The code of a row's entry. -/
def rowCode (q : Fin 2048 → Ideal .f32) (k : Fin 2048) : Ideal .f32 := tokenCode (rowMax q) (q k)

/-- One entry of the linear layer: the codes against a column `w`, times the row's scale and the column's, plus the
    column's bias. -/
def rowOut (q : Fin 2048 → Ideal .f32) (w : Fin 2048 → EReal) (s b : Ideal .f32) : Ideal .f32 :=
  FloatOps.addf (FloatOps.mulf (FloatOps.mulf ((∑ k, (rowCode q k : EReal) * w k : EReal) : Ideal .f32) (rowScale q)) s) b

/-- The largest magnitude of a row is not negative. -/
theorem rowMax_nonneg (q : Fin 2048 → Ideal .f32) : (0 : EReal) ≤ rowMax q := by
  have h : (FloatOps.absf (q 0) : Ideal .f32) ≤ (rowMax q : EReal) :=
    Finset.le_fold_max _ |>.mpr (Or.inr ⟨0, Finset.mem_univ _, le_rfl⟩)
  refine le_trans ?_ h
  show (0 : EReal) ≤ max (q 0 : EReal) (-(q 0 : EReal))
  rcases le_total (0 : EReal) (q 0) with h0 | h0
  · exact le_max_of_le_left h0
  · exact le_max_of_le_right (EReal.neg_nonneg.mpr h0)

end Cert.Row

end
-- ==== Proof.Layer.lean ====
/-
  THE VECTOR OPERATIONS OF THE LAYER, each read at one index, for any number of rows and columns: a column broadcast over
  a row, a row's largest magnitude, a row's sum of words, and one entry of the scaled product with its bias.
-/
module

public import proofs.«01_k».proof.Proof.Row
public import Idealize.ShloMosaic.Lib.MatmulPlain
public import Idealize.ShloMosaic.Lib.ValueLayout

@[expose] public section

noncomputable section

namespace Cert.Layer

open Idealize.ShloMosaic Idealize.ShloMosaic.ValueIdx Cert.Exponent Cert.Row

/-- A column of one entry per row, broadcast over columns, reads the row's entry. -/
theorem broadcastTo_a1_ab {α : Type} {a b : ℕ} (v : (⟨2, ![a, 1]⟩ : Shape).Idx → α)
    (h : (⟨2, ![a, 1]⟩ : Shape).Broadcasts ⟨2, ![a, b]⟩) (r : Fin a) (c : Fin b) :
    broadcastTo ⟨2, ![a, b]⟩ v h (ix2 r c) = v (ix2 r (0 : Fin 1)) := by
  refine broadcastTo_apply v h (ix2 r c) (ix2 r (0 : Fin 1)) fun ax => ?_
  match ax with
  | ⟨0, _⟩ =>
    show r.val = if a = 1 then 0 else r.val
    split
    · have := r.isLt; omega
    · rfl
  | ⟨1, _⟩ => rfl

/-- A list of one entry per row, laid out as a column, reads the row's entry. -/
theorem shapeCast_a_a1 {α : Type} {a : ℕ} (v : (⟨1, ![a]⟩ : Shape).Idx → α)
    (h : (⟨1, ![a]⟩ : Shape).ShapeCasts ⟨2, ![a, 1]⟩) (r : Fin a) (z : Fin 1) :
    shapeCast ⟨2, ![a, 1]⟩ v h (ix2 r z) = v (ix1 r) := by
  have e : Shape.reshapeEquiv h (ix2 r z) = ix1 r := Shape.reshapeEquiv_eq_of_rowMajor h (by
    rw [Shape.rowMajor_val_two, Shape.rowMajor_val_one]
    show r.val = r.val * 1 + z.val
    have := z.isLt; omega)
  exact congrArg v e

/-- A row's index with a column put back. -/
theorem lift_ix1 {a b : ℕ} (h : (⟨2, ![a, b]⟩ : Shape).Reduces [1] (⟨1, ![a]⟩ : Shape)) (r : Fin a)
    (k : Fin ((⟨2, ![a, b]⟩ : Shape).size 1)) : h.lift (ix1 r) k = ix2 r (⟨k.val, k.isLt⟩ : Fin b) := by
  funext c; apply Fin.ext
  fin_cases c <;> rfl

/-- The largest magnitude of each row, laid out as a column, reads the row's. -/
theorem rowMax_apply {a : ℕ} (v : FVec Ideal ⟨2, ![a, 2048]⟩ .f32)
    (h : (⟨2, ![a, 2048]⟩ : Shape).Reduces [1] (⟨1, ![a]⟩ : Shape)) (hφ : FKind.Formats .f32)
    (hacc : (0xFF800000#32 : BitVec 32) = FKind.maximumf.neutral .f32 hφ)
    (hc : (⟨1, ![a]⟩ : Shape).ShapeCasts ⟨2, ![a, 1]⟩) (r : Fin a) (z : Fin 1) :
    shapeCast ⟨2, ![a, 1]⟩ (multiReduction .maximumf [1] ⟨1, ![a]⟩ (absf v) 0xFF800000#32 h hφ hacc) hc (ix2 r z)
      = rowMax (fun k => v (ix2 r k)) := by
  rw [shapeCast_a_a1, Ideal.multiReduction_maximumf_single]
  have hf : (absf v ∘ h.lift (ix1 r)) = fun k : Fin 2048 => (FloatOps.absf (v (ix2 r k)) : Ideal .f32) :=
    funext fun k => congrArg (absf v) (lift_ix1 h r k)
  exact congrArg (fun f => Finset.fold max (FloatOps.ofBits .f32 0xFF800000#32 : Ideal .f32) f
    (Finset.univ : Finset (Fin 2048))) hf

/-- The sum of each row of words, laid out as a column, reads the row's. -/
theorem rowSum_apply {a b : ℕ} (v : IVec ⟨2, ![a, b]⟩ 32)
    (h : (⟨2, ![a, b]⟩ : Shape).Reduces [1] (⟨1, ![a]⟩ : Shape)) (hacc : (0#32 : BitVec 32) = IKind.add.neutral)
    (hc : (⟨1, ![a]⟩ : Shape).ShapeCasts ⟨2, ![a, 1]⟩) (r : Fin a) (z : Fin 1) :
    shapeCast ⟨2, ![a, 1]⟩ (multiReductionI .add [1] ⟨1, ![a]⟩ v 0#32 h hacc) hc (ix2 r z)
      = (Finset.univ : Finset (Fin b)).fold IntOp.addi 0#32 (fun k => v (ix2 r k)) := by
  rw [shapeCast_a_a1, multiReductionI_eq_fold, h.fold_filter_drop_single]
  have hf : (v ∘ h.lift (ix1 r)) = fun k : Fin b => v (ix2 r k) :=
    funext fun k => congrArg v (lift_ix1 h r k)
  exact congrArg (fun f => Finset.fold IntOp.addi 0#32 f (Finset.univ : Finset (Fin b))) hf

/-- One entry of the scaled product with its bias: the codes' row against the weights' column, times the row's scale and
    the column's, plus the column's bias. -/
theorem entry_apply {a b : ℕ} (codes : FVec Ideal ⟨2, ![a, 2048]⟩ .fp8e4m3) (w : FVec Ideal ⟨2, ![2048, b]⟩ .fp8e4m3)
    (scale : FVec Ideal ⟨2, ![a, 1]⟩ .f32) (s t : FVec Ideal ⟨2, ![1, b]⟩ .f32)
    (h1 : (⟨2, ![a, 1]⟩ : Shape).Broadcasts ⟨2, ![a, b]⟩) (h2 h3 : (⟨2, ![1, b]⟩ : Shape).Broadcasts ⟨2, ![a, b]⟩)
    (r : Fin a) (c : Fin b) :
    addf (mulf (mulf (matmul (DotDims.plain a 2048 b) none codes w (constant ⟨2, ![a, b]⟩ .f32 0x00000000#32))
        (broadcastTo ⟨2, ![a, b]⟩ scale h1)) (broadcastTo ⟨2, ![a, b]⟩ s h2)) (broadcastTo ⟨2, ![a, b]⟩ t h3) (ix2 r c)
      = FloatOps.addf (FloatOps.mulf (FloatOps.mulf
          ((∑ k : Fin 2048, (codes (ix2 r k) : EReal) * w (ix2 k c) : EReal) : Ideal .f32) (scale (ix2 r (0 : Fin 1))))
          (s (ix2 (0 : Fin 1) c))) (t (ix2 (0 : Fin 1) c)) := by
  simp only [addf, mulf]
  rw [broadcastTo_a1_ab, broadcastTo_1b_ab_apply, broadcastTo_1b_ab_apply]
  have e : matmul (DotDims.plain a 2048 b) none codes w (constant ⟨2, ![a, b]⟩ .f32 0x00000000#32) (ix2 r c)
      = (∑ k : Fin 2048, (codes (ix2 r k) : EReal) * w (ix2 k c) : EReal) := by
    refine (Ideal.matmul_plain_apply none codes w _ r c).trans ?_
    rw [show (constant ⟨2, ![a, b]⟩ .f32 0x00000000#32 : FVec Ideal ⟨2, ![a, b]⟩ .f32) (ix2 r c) = (0 : EReal) from ofBits_zero,
      zero_add]
  rw [e]

end Cert.Layer

end
-- ==== Proof.KernelBlock.lean ====
/-
  WHAT THE KERNEL STORES, read at one index of a block of 256 rows: each value of the body at a row, over that row of
  quotients alone.
-/
module

public import proofs.«01_k».proof.Proof.Gen.KernelIdeal.Frame
public import proofs.«01_k».proof.Proof.Layer

@[expose] public section

noncomputable section

namespace Cert.KernelIdeal.Blocks

open Idealize.ShloMosaic Idealize.ShloMosaic.ValueIdx Cert.Exponent Cert.Row Cert.Layer Cert.KernelIdeal.Gen

/-- The quotients of row `r` of a block of tokens. -/
def quot (x : Vec Ideal S256x2048 .f32) (s : Vec Ideal S1x2048 .f32) (r : Fin 256) (k : Fin 2048) : Ideal .f32 :=
  FloatOps.divf (x (ix2 r k)) (s (ix2 (0 : Fin 1) k))

/-- The quotients, at an index. -/
theorem pay2_apply (x : Vec Ideal S256x2048 .f32) (s : Vec Ideal S1x2048 .f32) (r : Fin 256) (k : Fin 2048) :
    k0_pay2 x s (ix2 r k) = quot x s r k := by
  unfold k0_pay2 quot
  simp only [shapeCast_self, divf]
  rw [broadcastTo_1b_ab_apply]

/-- Each row's largest magnitude. -/
theorem pay3_apply (x : Vec Ideal S256x2048 .f32) (s : Vec Ideal S1x2048 .f32) (r : Fin 256) (z : Fin 1) :
    k0_pay3 x s (ix2 r z) = rowMax (quot x s r) := by
  unfold k0_pay3
  refine (rowMax_apply (k0_pay2 x s) _ _ _ _ r z).trans ?_
  exact congrArg rowMax (funext fun k => pay2_apply x s r k)

/-- The three high comparisons of the search, at an index. -/
theorem pay5_apply (x : Vec Ideal S256x2048 .f32) (s : Vec Ideal S1x2048 .f32) (j : S256x1.Idx) :
    k0_pay5 x s j = searchStep (k0_pay4 x s j) 32#32 (searchStep (k0_pay4 x s j) 64#32
      (searchStep (k0_pay4 x s j) 128#32 0#32)) := by
  unfold k0_pay5
  generalize k0_pay4 x s = t
  rfl

/-- The next four comparisons, at an index. -/
theorem pay6_apply (t : FVec Ideal S256x1 .f32) (v : IVec S256x1 32) (j : S256x1.Idx) :
    k0_pay6 t v 16#32 j = searchStep (t j) 2#32 (searchStep (t j) 4#32 (searchStep (t j) 8#32
      (searchStep (t j) 16#32 (v j)))) := rfl

/-- The exponent of the scale, after the last comparison, at an index. -/
theorem pay8_apply (a t : FVec Ideal S256x1 .f32) (v : IVec S256x1 32) (j : S256x1.Idx) :
    k0_pay8 a (k0_pay6 t v 16#32) (k0_pay7 t v 16#32) j
      = scaleWord (a j) (searchStep (t j) 1#32 (k0_pay6 t v 16#32 j)) := by
  unfold k0_pay8 k0_pay7
  generalize k0_pay6 t v 16#32 = u
  rfl

/-- The exponent of the scale, at an index, over the row's largest magnitude. -/
theorem exponent_apply (x : Vec Ideal S256x2048 .f32) (s : Vec Ideal S1x2048 .f32) (j : S256x1.Idx) :
    k0_pay8 (k0_pay3 x s) (k0_pay6 (k0_pay4 x s) (k0_pay5 x s) 16#32) (k0_pay7 (k0_pay4 x s) (k0_pay5 x s) 16#32) j
      = tokenExp (k0_pay3 x s j) := by
  rw [pay8_apply, pay6_apply, pay5_apply]
  have e : k0_pay4 x s j = FloatOps.mulf (k0_pay3 x s j) (Scalar.ofBits .f32 0x3B124925#32) := rfl
  rw [e]
  rfl

/-- The scale, at an index, over any exponent. -/
theorem pay9_apply (a : FVec Ideal S256x1 .f32) (u : IVec S256x1 32) (b : IVec S256x1 1) (j : S256x1.Idx) :
    k0_pay9 a u b j = powWord (k0_pay8 a u b j) := by
  unfold k0_pay9
  generalize k0_pay8 a u b = e
  rfl

/-- The codes, at an index, over any exponent. -/
theorem pay14_apply (q : FVec Ideal S256x2048 .f32) (a : FVec Ideal S256x1 .f32) (u : IVec S256x1 32) (b : IVec S256x1 1)
    (r : Fin 256) (k : Fin 2048) :
    k0_pay14 q (k0_pay11 a u b) (k0_pay12 a u b) k0_pay13 (ix2 r k)
      = FloatOps.minimumf (Scalar.ofBits .f32 0x43E00000#32) (FloatOps.maximumf (Scalar.ofBits .f32 0xC3E00000#32)
          (FloatOps.mulf (q (ix2 r k)) (powWord (IntOp.subi 0#32 (k0_pay8 a u b (ix2 r (0 : Fin 1))))))) := by
  unfold k0_pay14 k0_pay11 k0_pay12 k0_pay10 k0_pay13
  generalize k0_pay8 a u b = e
  simp only [truncf, minimumf, maximumf, mulf]
  rw [broadcastTo_a1_ab]
  rfl

end Cert.KernelIdeal.Blocks

end
-- ==== Proof.KernelStore.lean ====
/-
  WHAT THE KERNEL LEAVES IN A BLOCK: the scale and the codes of each row, and, over the eight column blocks that it
  stores one after another, the layer's entries as one function of the row and the column.
-/
module

public import proofs.«01_k».proof.Proof.KernelBlock
public import Idealize.ShloMosaic.Lib.Pipeline.Value

@[expose] public section

noncomputable section

namespace Cert.KernelIdeal.Blocks

open Idealize.ShloMosaic Idealize.ShloMosaic.ValueIdx Cert.Exponent Cert.Row Cert.Layer Cert.KernelIdeal.Gen

/-- The zero offsets of a whole array's rectangle. -/
theorem off_zero : (![0, 0] : Fin 2 → ℕ) = fun _ => 0 := by
  funext a; fin_cases a <;> rfl

variable (x0 : Vec Ideal S256x2048 .f32) (x1 : Vec Ideal S1x2048 .f32) (x2 : Vec Ideal S2048x8192 .fp8e4m3)
  (x3 x4 : Vec Ideal S1x8192 .f32)

/-- The scale the body stores, at a row. -/
theorem scale_apply (r : Fin 256) (z : Fin 1) : k0_pay31 x0 x1 x2 x3 x4 (ix2 r z) = rowScale (quot x0 x1 r) := by
  have h0 : View.ld x0 r0_0 = x0 := View.ld_unit_zero off_zero _ x0
  have h1 : View.ld x1 r0_1 = x1 := View.ld_unit_zero off_zero _ x1
  unfold k0_pay31 k0_pay30 k0_pay29 k0_pay28 k0_pay27 k0_pay26
  rw [h0, h1, pay9_apply, exponent_apply, pay3_apply]
  rfl

/-- The codes the body stores, at an entry. -/
theorem codes_apply (r : Fin 256) (k : Fin 2048) : k0_pay35 x0 x1 x2 x3 x4 (ix2 r k) = rowCode (quot x0 x1 r) k := by
  have h0 : View.ld x0 r0_0 = x0 := View.ld_unit_zero off_zero _ x0
  have h1 : View.ld x1 r0_1 = x1 := View.ld_unit_zero off_zero _ x1
  unfold k0_pay35 k0_pay34 k0_pay33 k0_pay32 k0_pay30 k0_pay29 k0_pay28 k0_pay27 k0_pay26 k0_pay25
  rw [h0, h1, pay14_apply, exponent_apply, pay3_apply, pay2_apply]
  rfl

/-- The layer's entries over a block, as one function of the row and the column. -/
def blockOut : Vec Ideal S256x8192 .f32 := fun y =>
  rowOut (quot x0 x1 (y 0)) (fun k => (x2 (ix2 k (y 1)) : EReal)) (x3 (ix2 (0 : Fin 1) (y 1))) (x4 (ix2 (0 : Fin 1) (y 1)))

/-- One column block's stored entries, at an entry of it. -/
theorem pay1_apply (scale : FVec Ideal S256x1 .f32) (codes : FVec Ideal S256x2048 .fp8e4m3) (w : Vec Ideal S2048x1024 .fp8e4m3)
    (s t : Vec Ideal S1x1024 .f32) (r : Fin 256) (c : Fin 1024) :
    k0_pay1 scale codes w s t (ix2 r c)
      = FloatOps.addf (FloatOps.mulf (FloatOps.mulf
          ((∑ k : Fin 2048, (codes (ix2 r k) : EReal) * w (ix2 k c) : EReal) : Ideal .f32) (scale (ix2 r (0 : Fin 1))))
          (s (ix2 (0 : Fin 1) c))) (t (ix2 (0 : Fin 1) c)) := by
  unfold k0_pay1
  simp only [shapeCast_self]
  exact entry_apply codes w scale s t _ _ _ r c

/-- One column block's stored entries are the layer's, at the columns from `o`. -/
theorem piece_apply (o : ℕ) (ho : o + 1024 ≤ 8192)
    (i2 : ∀ a, (![0, o] : Fin 2 → ℕ) a + S2048x1024.size a ≤ S2048x8192.size a)
    (i3 : ∀ a, (![0, o] : Fin 2 → ℕ) a + S1x1024.size a ≤ S1x8192.size a)
    (i5 : ∀ a, (![0, o] : Fin 2 → ℕ) a + S256x1024.size a ≤ S256x8192.size a) (x : S256x1024.Idx) :
    k0_pay1 (k0_pay31 x0 x1 x2 x3 x4) (k0_pay35 x0 x1 x2 x3 x4)
        (View.ld x2 (Rect.unit (s := S2048x8192) ![0, o] S2048x1024.size i2))
        (View.ld x3 (Rect.unit (s := S1x8192) ![0, o] S1x1024.size i3))
        (View.ld x4 (Rect.unit (s := S1x8192) ![0, o] S1x1024.size i3)) x
      = blockOut x0 x1 x2 x3 x4 ((Rect.unit (s := S256x8192) ![0, o] S256x1024.size i5).emb x) := by
  obtain ⟨r, c, rfl⟩ : ∃ (r : Fin 256) (c : Fin 1024), x = ix2 r c := ⟨x 0, x 1, eq_ix2 x⟩
  have hc := c.isLt
  have e5 : (Rect.unit (s := S256x8192) ![0, o] S256x1024.size i5).emb (ix2 r c) = ix2 r (⟨o + c.val, by omega⟩ : Fin 8192) := by
    funext a; apply Fin.ext
    match a with
    | ⟨0, _⟩ => show 0 + 1 * r.val = r.val; omega
    | ⟨1, _⟩ => show o + 1 * c.val = o + c.val; omega
  have e2 : ∀ k : Fin 2048, (Rect.unit (s := S2048x8192) ![0, o] S2048x1024.size i2).emb (ix2 k c)
      = ix2 k (⟨o + c.val, by omega⟩ : Fin 8192) := by
    intro k; funext a; apply Fin.ext
    match a with
    | ⟨0, _⟩ => show 0 + 1 * k.val = k.val; omega
    | ⟨1, _⟩ => show o + 1 * c.val = o + c.val; omega
  have e3 : (Rect.unit (s := S1x8192) ![0, o] S1x1024.size i3).emb (ix2 (0 : Fin 1) c)
      = ix2 (0 : Fin 1) (⟨o + c.val, by omega⟩ : Fin 8192) := by
    funext a; apply Fin.ext
    match a with
    | ⟨0, _⟩ => rfl
    | ⟨1, _⟩ => show o + 1 * c.val = o + c.val; omega
  rw [e5, pay1_apply, scale_apply]
  have l2 : ∀ k : Fin 2048, View.ld x2 (Rect.unit (s := S2048x8192) ![0, o] S2048x1024.size i2) (ix2 k c)
      = x2 (ix2 k (⟨o + c.val, by omega⟩ : Fin 8192)) := fun k => congrArg x2 (e2 k)
  have l3 : ∀ v : Vec Ideal S1x8192 .f32, View.ld v (Rect.unit (s := S1x8192) ![0, o] S1x1024.size i3) (ix2 (0 : Fin 1) c)
      = v (ix2 (0 : Fin 1) (⟨o + c.val, by omega⟩ : Fin 8192)) := fun v => congrArg v e3
  rw [l3, l3]
  simp only [l2, codes_apply]
  rfl

/-- The layer's entries in a block: the eight stores leave the one function. -/
theorem out5_eq : out0_5 x0 x1 x2 x3 x4 = blockOut x0 x1 x2 x3 x4 := by
  funext y
  unfold out0_5
  refine View.canon_apply_of_pieces (Val := Elt Ideal) (blockOut x0 x1 x2 x3 x4) _ ?_ y (cover0_5 _ _ _ _ _ _ _ _ y)
  intro p hp
  simp only [List.mem_cons, List.mem_nil_iff, or_false] at hp
  rcases hp with rfl | rfl | rfl | rfl | rfl | rfl | rfl | rfl
  · exact piece_apply x0 x1 x2 x3 x4 7168 (by omega) inb_S2048x8192_S2048x1024_0_7168 inb_S1x8192_S1x1024_0_7168
      inb_S256x8192_S256x1024_0_7168
  · exact piece_apply x0 x1 x2 x3 x4 6144 (by omega) inb_S2048x8192_S2048x1024_0_6144 inb_S1x8192_S1x1024_0_6144
      inb_S256x8192_S256x1024_0_6144
  · exact piece_apply x0 x1 x2 x3 x4 5120 (by omega) inb_S2048x8192_S2048x1024_0_5120 inb_S1x8192_S1x1024_0_5120
      inb_S256x8192_S256x1024_0_5120
  · exact piece_apply x0 x1 x2 x3 x4 4096 (by omega) inb_S2048x8192_S2048x1024_0_4096 inb_S1x8192_S1x1024_0_4096
      inb_S256x8192_S256x1024_0_4096
  · exact piece_apply x0 x1 x2 x3 x4 3072 (by omega) inb_S2048x8192_S2048x1024_0_3072 inb_S1x8192_S1x1024_0_3072
      inb_S256x8192_S256x1024_0_3072
  · exact piece_apply x0 x1 x2 x3 x4 2048 (by omega) inb_S2048x8192_S2048x1024_0_2048 inb_S1x8192_S1x1024_0_2048
      inb_S256x8192_S256x1024_0_2048
  · exact piece_apply x0 x1 x2 x3 x4 1024 (by omega) inb_S2048x8192_S2048x1024_0_1024 inb_S1x8192_S1x1024_0_1024
      inb_S256x8192_S256x1024_0_1024
  · exact piece_apply x0 x1 x2 x3 x4 0 (by omega) inb_S2048x8192_S2048x1024_0_0 inb_S1x8192_S1x1024_0_0
      inb_S256x8192_S256x1024_0_0

/-- The codes in a block. -/
theorem out6_apply (r : Fin 256) (k : Fin 2048) : out0_6 x0 x1 x2 x3 x4 (ix2 r k) = rowCode (quot x0 x1 r) k := by
  unfold out0_6
  rw [View.canon_unit_zero off_zero]
  exact codes_apply x0 x1 x2 x3 x4 r k

/-- The scales in a block. -/
theorem out7_apply (r : Fin 256) (z : Fin 1) : out0_7 x0 x1 x2 x3 x4 (ix2 r z) = rowScale (quot x0 x1 r) := by
  unfold out0_7
  rw [View.canon_unit_zero off_zero]
  exact scale_apply x0 x1 x2 x3 x4 r z

end Cert.KernelIdeal.Blocks

end
-- ==== Proof.Arrays.lean ====
/-
  THE LAYER OVER THE WHOLE ARRAYS, as mathematics: 16384 tokens of 2048 features, 8192 columns of weights.
-/
module

public import proofs.«01_k».proof.Proof.Layer

@[expose] public section

noncomputable section

namespace Cert.Arrays

open Idealize.ShloMosaic Idealize.ShloMosaic.ValueIdx Cert.Row

/-- The quotients of token `r`. -/
def tokenQuot (X : Vec Ideal ⟨2, ![16384, 2048]⟩ .f32) (S : Vec Ideal ⟨2, ![1, 2048]⟩ .f32) (r : Fin 16384) (k : Fin 2048) :
    Ideal .f32 :=
  FloatOps.divf (X (ix2 r k)) (S (ix2 (0 : Fin 1) k))

/-- The layer's entries. -/
def outs (X : Vec Ideal ⟨2, ![16384, 2048]⟩ .f32) (S : Vec Ideal ⟨2, ![1, 2048]⟩ .f32)
    (W : Vec Ideal ⟨2, ![2048, 8192]⟩ .fp8e4m3) (T B : Vec Ideal ⟨2, ![1, 8192]⟩ .f32) :
    Vec Ideal ⟨2, ![16384, 8192]⟩ .f32 := fun y =>
  rowOut (tokenQuot X S (y 0)) (fun k => (W (ix2 k (y 1)) : EReal)) (T (ix2 (0 : Fin 1) (y 1))) (B (ix2 (0 : Fin 1) (y 1)))

/-- The codes. -/
def codes (X : Vec Ideal ⟨2, ![16384, 2048]⟩ .f32) (S : Vec Ideal ⟨2, ![1, 2048]⟩ .f32) :
    Vec Ideal ⟨2, ![16384, 2048]⟩ .fp8e4m3 := fun y => rowCode (tokenQuot X S (y 0)) (y 1)

/-- The scales. -/
def scales (X : Vec Ideal ⟨2, ![16384, 2048]⟩ .f32) (S : Vec Ideal ⟨2, ![1, 2048]⟩ .f32) :
    Vec Ideal ⟨2, ![16384, 1]⟩ .f32 := fun y => rowScale (tokenQuot X S (y 0))

/-! ## The results, over the arguments -/

variable (a0 : Vec Ideal ⟨3, ![4, 4096, 2048]⟩ .f32) (a1 : Vec Ideal ⟨1, ![2048]⟩ .f32)
  (a2 : Vec Ideal ⟨2, ![2048, 8192]⟩ .fp8e4m3) (a3 a4 : Vec Ideal ⟨1, ![8192]⟩ .f32)

/-- The tokens' argument, one token per row. -/
def tokens : Vec Ideal ⟨2, ![16384, 2048]⟩ .f32 :=
  shapeCast (⟨2, ![16384, 2048]⟩ : Shape) a0 (by decide +kernel : (⟨3, ![4, 4096, 2048]⟩ : Shape).ShapeCasts ⟨2, ![16384, 2048]⟩)

/-- The divisors' argument, as one row. -/
def divisors : Vec Ideal ⟨2, ![1, 2048]⟩ .f32 :=
  shapeCast (⟨2, ![1, 2048]⟩ : Shape) a1 (by decide +kernel : (⟨1, ![2048]⟩ : Shape).ShapeCasts ⟨2, ![1, 2048]⟩)

/-- An argument of one entry per column, as one row. -/
def columns (a : Vec Ideal ⟨1, ![8192]⟩ .f32) : Vec Ideal ⟨2, ![1, 8192]⟩ .f32 :=
  shapeCast (⟨2, ![1, 8192]⟩ : Shape) a (by decide +kernel : (⟨1, ![8192]⟩ : Shape).ShapeCasts ⟨2, ![1, 8192]⟩)

/-- The first result: the layer's entries. -/
def result0 : Vec Ideal ⟨3, ![4, 4096, 8192]⟩ .f32 :=
  shapeCast (⟨3, ![4, 4096, 8192]⟩ : Shape) (outs (tokens a0) (divisors a1) a2 (columns a3) (columns a4))
    (by decide +kernel : (⟨2, ![16384, 8192]⟩ : Shape).ShapeCasts ⟨3, ![4, 4096, 8192]⟩)

/-- The second result: the codes. -/
def result1 : Vec Ideal ⟨3, ![4, 4096, 2048]⟩ .fp8e4m3 :=
  shapeCast (⟨3, ![4, 4096, 2048]⟩ : Shape) (codes (tokens a0) (divisors a1))
    (by decide +kernel : (⟨2, ![16384, 2048]⟩ : Shape).ShapeCasts ⟨3, ![4, 4096, 2048]⟩)

/-- The third result: the scales. -/
def result2 : Vec Ideal ⟨3, ![4, 4096, 1]⟩ .f32 :=
  shapeCast (⟨3, ![4, 4096, 1]⟩ : Shape) (scales (tokens a0) (divisors a1))
    (by decide +kernel : (⟨2, ![16384, 1]⟩ : Shape).ShapeCasts ⟨3, ![4, 4096, 1]⟩)

end Cert.Arrays

end
-- ==== Proof.KernelArrays.lean ====
/-
  WHAT THE KERNEL LEAVES IN ITS RESULT ARRAYS: its 64 blocks of 256 tokens cover them, and each block holds the layer's
  entries, codes and scales of its tokens.
-/
module

public import proofs.«01_k».proof.Proof.KernelStore
public import proofs.«01_k».proof.Proof.Arrays
public import Idealize.ShloMosaic.Lib.Pipeline.ValueKit

@[expose] public section

noncomputable section

namespace Cert.KernelIdeal.Arrays

open Idealize.ShloMosaic hiding ix2 eq_ix2
open Idealize.ShloMosaic.ValueIdx Idealize.ShloMosaic.TcCoe Idealize.SL.Sem
open Cert.Row Cert.Arrays Cert.KernelIdeal Cert.KernelIdeal.Gen Cert.KernelIdeal.Blocks
open Idealize.ShloMosaic.Pipeline (Dat)

variable (m : (ℓ : Loc nD τ sig) → Buf (Elt Ideal) ℓ)

/-- The tokens' block moves down one block at each grid point. -/
theorem idx0 : ∀ t : Fin cfg0.N, win0_0.index t = ![(grid0.coords t 0).val, 0] :=
  (by decide +kernel : ∀ t : Fin grid0.N, win0_0.index t = ![(grid0.coords t 0).val, 0])
/-- The divisors' block is the whole row at every point. -/
theorem idx1 : ∀ t : Fin cfg0.N, win0_1.index t = ![0, 0] :=
  (by decide +kernel : ∀ t : Fin grid0.N, win0_1.index t = ![0, 0])
/-- The weights' block is the whole array at every point. -/
theorem idx2 : ∀ t : Fin cfg0.N, win0_2.index t = ![0, 0] :=
  (by decide +kernel : ∀ t : Fin grid0.N, win0_2.index t = ![0, 0])
/-- The weights' scales' block is the whole row at every point. -/
theorem idx3 : ∀ t : Fin cfg0.N, win0_3.index t = ![0, 0] :=
  (by decide +kernel : ∀ t : Fin grid0.N, win0_3.index t = ![0, 0])
/-- The biases' block is the whole row at every point. -/
theorem idx4 : ∀ t : Fin cfg0.N, win0_4.index t = ![0, 0] :=
  (by decide +kernel : ∀ t : Fin grid0.N, win0_4.index t = ![0, 0])
/-- The entries' block moves down one block at each grid point. -/
theorem idx5 : ∀ t : Fin cfg0.N, win0_5.index t = ![(grid0.coords t 0).val, 0] :=
  (by decide +kernel : ∀ t : Fin grid0.N, win0_5.index t = ![(grid0.coords t 0).val, 0])
/-- The codes' block moves down one block at each grid point. -/
theorem idx6 : ∀ t : Fin cfg0.N, win0_6.index t = ![(grid0.coords t 0).val, 0] :=
  (by decide +kernel : ∀ t : Fin grid0.N, win0_6.index t = ![(grid0.coords t 0).val, 0])
/-- The scales' block moves down one block at each grid point. -/
theorem idx7 : ∀ t : Fin cfg0.N, win0_7.index t = ![(grid0.coords t 0).val, 0] :=
  (by decide +kernel : ∀ t : Fin grid0.N, win0_7.index t = ![(grid0.coords t 0).val, 0])

/-- An entry of the tokens' block, over the whole array. -/
theorem tokens_eq (c : Dev nD) (t : Fin cfg0.N) (r : Fin 256) (R : Fin 16384)
    (hR : R.val = (grid0.coords t 0).val * 256 + r.val) (k : Fin 2048) :
    iblk m c 0 t (ix2 r k) = V m c main_v0 (ix2 R k) := by
  have e : (win0_0.blk t).view.emb (ix2 r k) = ix2 R k := by
    funext a; apply Fin.ext
    match a with
    | ⟨0, _⟩ =>
      have h : ((win0_0.blk t).view.emb (ix2 r k) 0 : ℕ) = (grid0.coords t 0).val * 256 + r.val := by
        blk_simp [idx0]
        rfl
      exact h.trans hR.symm
    | ⟨1, _⟩ =>
      have h : ((win0_0.blk t).view.emb (ix2 r k) 1 : ℕ) = k.val := by
        blk_simp [idx0]
        rfl
      exact h
  blk_simp [iblk]
  exact congrArg (V m c main_v0) e

/-- An entry of the divisors' block. -/
theorem divisors_eq (c : Dev nD) (t : Fin cfg0.N) (i : Fin 1) (j : Fin 2048) : iblk m c 1 t (ix2 i j) = V m c main_v1 (ix2 i j) := by
  have e : (win0_1.blk t).view.emb (ix2 i j) = ix2 i j := by
    funext a; apply Fin.ext
    match a with
    | ⟨0, _⟩ =>
      have h : ((win0_1.blk t).view.emb (ix2 i j) 0 : ℕ) = i.val := by
        blk_simp [idx1]
      exact h
    | ⟨1, _⟩ =>
      have h : ((win0_1.blk t).view.emb (ix2 i j) 1 : ℕ) = j.val := by
        blk_simp [idx1]
        rfl
      exact h
  blk_simp [iblk]
  exact congrArg (V m c main_v1) e

/-- An entry of the weights' block. -/
theorem weights_eq (c : Dev nD) (t : Fin cfg0.N) (i : Fin 2048) (j : Fin 8192) : iblk m c 2 t (ix2 i j) = V m c main_arg2 (ix2 i j) := by
  have e : (win0_2.blk t).view.emb (ix2 i j) = ix2 i j := by
    funext a; apply Fin.ext
    match a with
    | ⟨0, _⟩ =>
      have h : ((win0_2.blk t).view.emb (ix2 i j) 0 : ℕ) = i.val := by
        blk_simp [idx2]
        rfl
      exact h
    | ⟨1, _⟩ =>
      have h : ((win0_2.blk t).view.emb (ix2 i j) 1 : ℕ) = j.val := by
        blk_simp [idx2]
        rfl
      exact h
  blk_simp [iblk]
  exact congrArg (V m c main_arg2) e

/-- An entry of the block of the weights' scales. -/
theorem columns_eq (c : Dev nD) (t : Fin cfg0.N) (i : Fin 1) (j : Fin 8192) : iblk m c 3 t (ix2 i j) = V m c main_v2 (ix2 i j) := by
  have e : (win0_3.blk t).view.emb (ix2 i j) = ix2 i j := by
    funext a; apply Fin.ext
    match a with
    | ⟨0, _⟩ =>
      have h : ((win0_3.blk t).view.emb (ix2 i j) 0 : ℕ) = i.val := by
        blk_simp [idx3]
      exact h
    | ⟨1, _⟩ =>
      have h : ((win0_3.blk t).view.emb (ix2 i j) 1 : ℕ) = j.val := by
        blk_simp [idx3]
        rfl
      exact h
  blk_simp [iblk]
  exact congrArg (V m c main_v2) e

/-- An entry of the biases' block. -/
theorem biases_eq (c : Dev nD) (t : Fin cfg0.N) (i : Fin 1) (j : Fin 8192) : iblk m c 4 t (ix2 i j) = V m c main_v3 (ix2 i j) := by
  have e : (win0_4.blk t).view.emb (ix2 i j) = ix2 i j := by
    funext a; apply Fin.ext
    match a with
    | ⟨0, _⟩ =>
      have h : ((win0_4.blk t).view.emb (ix2 i j) 0 : ℕ) = i.val := by
        blk_simp [idx4]
      exact h
    | ⟨1, _⟩ =>
      have h : ((win0_4.blk t).view.emb (ix2 i j) 1 : ℕ) = j.val := by
        blk_simp [idx4]
        rfl
      exact h
  blk_simp [iblk]
  exact congrArg (V m c main_v3) e

/-- The quotients of a row of the tokens' block, over the whole arrays. -/
theorem quot_eq (c : Dev nD) (t : Fin cfg0.N) (r : Fin 256) (R : Fin 16384)
    (hR : R.val = (grid0.coords t 0).val * 256 + r.val) :
    quot (iblk m c 0 t) (iblk m c 1 t) r = tokenQuot (V m c main_v0) (V m c main_v1) R := by
  funext k
  unfold quot tokenQuot
  rw [tokens_eq m c t r R hR k, divisors_eq m c t 0 k]

/-- After the run the array of entries holds the layer's. -/
theorem final5 (c : Dev nD) : (dats m 0 c).arrAt 5 cfg0.N
    = outs (V m c main_v0) (V m c main_v1) (V m c main_arg2) (V m c main_v2) (V m c main_v3) := by
  refine (dats m 0 c).arrAt_eq_of_covers 5 _ (by decide +kernel) fun t hf y => ?_
  have h0 : ((win0_5.blk t).view.emb y 0 : ℕ) = (grid0.coords t 0).val * 256 + (y 0).val := by
    blk_simp [idx5]
  have h1 : (win0_5.blk t).view.emb y 1 = y 1 := Fin.ext (by blk_simp [idx5])
  blk_simp
  rw [after0_5, out5_eq]
  show rowOut (quot (iblk m c 0 t) (iblk m c 1 t) (y 0)) (fun k => (iblk m c 2 t (ix2 k (y 1)) : EReal))
      (iblk m c 3 t (ix2 (0 : Fin 1) (y 1))) (iblk m c 4 t (ix2 (0 : Fin 1) (y 1)))
    = rowOut (tokenQuot (V m c main_v0) (V m c main_v1) ((win0_5.blk t).view.emb y 0))
      (fun k => (V m c main_arg2 (ix2 k ((win0_5.blk t).view.emb y 1)) : EReal))
      (V m c main_v2 (ix2 (0 : Fin 1) ((win0_5.blk t).view.emb y 1)))
      (V m c main_v3 (ix2 (0 : Fin 1) ((win0_5.blk t).view.emb y 1)))
  rw [quot_eq m c t (y 0) ((win0_5.blk t).view.emb y 0) h0, columns_eq m c t 0 (y 1), biases_eq m c t 0 (y 1), h1]
  exact congrArg (fun w => rowOut _ w _ _) (funext fun k => weights_eq m c t k (y 1))

/-- After the run the array of codes holds the layer's. -/
theorem final6 (c : Dev nD) : (dats m 0 c).arrAt 6 cfg0.N = codes (V m c main_v0) (V m c main_v1) := by
  refine (dats m 0 c).arrAt_eq_of_covers 6 _ (by decide +kernel) fun t hf y => ?_
  have h0 : ((win0_6.blk t).view.emb y 0 : ℕ) = (grid0.coords t 0).val * 256 + (y 0).val := by
    blk_simp [idx6]
  have h1 : (win0_6.blk t).view.emb y 1 = y 1 := Fin.ext (by blk_simp [idx6])
  blk_simp
  rw [after0_6]
  show out0_6 (iblk m c 0 t) (iblk m c 1 t) (iblk m c 2 t) (iblk m c 3 t) (iblk m c 4 t) y
    = rowCode (tokenQuot (V m c main_v0) (V m c main_v1) ((win0_6.blk t).view.emb y 0)) ((win0_6.blk t).view.emb y 1)
  refine (congrArg _ (eq_ix2 y)).trans ((out6_apply _ _ _ _ _ (y 0) (y 1)).trans ?_)
  rw [quot_eq m c t (y 0) ((win0_6.blk t).view.emb y 0) h0, h1]

/-- After the run the array of scales holds the layer's. -/
theorem final7 (c : Dev nD) : (dats m 0 c).arrAt 7 cfg0.N = scales (V m c main_v0) (V m c main_v1) := by
  refine (dats m 0 c).arrAt_eq_of_covers 7 _ (by decide +kernel) fun t hf y => ?_
  have h0 : ((win0_7.blk t).view.emb y 0 : ℕ) = (grid0.coords t 0).val * 256 + (y 0).val := by
    blk_simp [idx7]
  blk_simp
  rw [after0_7]
  show out0_7 (iblk m c 0 t) (iblk m c 1 t) (iblk m c 2 t) (iblk m c 3 t) (iblk m c 4 t) y
    = rowScale (tokenQuot (V m c main_v0) (V m c main_v1) ((win0_7.blk t).view.emb y 0))
  refine (congrArg _ (eq_ix2 y)).trans ((out7_apply _ _ _ _ _ (y 0) (y 1)).trans ?_)
  rw [quot_eq m c t (y 0) ((win0_7.blk t).view.emb y 0) h0]

end Cert.KernelIdeal.Arrays

end
-- ==== Proof.KernelRun.lean ====
/-
  THE KERNEL'S RUN: the reshapes before and after the blocks, and with them the three results over the arguments.
-/
module

public import proofs.«01_k».proof.Proof.KernelArrays

@[expose] public section

noncomputable section

namespace Cert.KernelIdeal.Arrays

open Idealize.ShloMosaic hiding ix2 eq_ix2
open Idealize.ShloMosaic.ValueIdx Idealize.ShloMosaic.TcCoe Idealize.SL.Sem
open Cert.Row Cert.Arrays Cert.KernelIdeal Cert.KernelIdeal.Gen Cert.KernelIdeal.Blocks
open Idealize.ShloMosaic.Pipeline (Dat)

variable (m : (ℓ : Loc nD τ sig) → Buf (Elt Ideal) ℓ) (ρ : Dev nD → PrngReg)

/-- The blocks' run finds the tokens one per row. -/
theorem V_v0 (c : Dev nD) : V m c main_v0 = tokens (m ((c : Thread nD τ).loc main_arg0)) := by
  change StableHlo.after hostOps0 (fun b => m (c, b)) (Proc.devRef .tc main_v0) = _
  unfold hostOps0
  after_results
  rfl

/-- It finds the divisors as one row. -/
theorem V_v1 (c : Dev nD) : V m c main_v1 = divisors (m ((c : Thread nD τ).loc main_arg1)) := by
  change StableHlo.after hostOps0 (fun b => m (c, b)) (Proc.devRef .tc main_v1) = _
  unfold hostOps0
  after_results
  rfl

/-- It finds the weights' scales as one row. -/
theorem V_v2 (c : Dev nD) : V m c main_v2 = columns (m ((c : Thread nD τ).loc main_arg3)) := by
  change StableHlo.after hostOps0 (fun b => m (c, b)) (Proc.devRef .tc main_v2) = _
  unfold hostOps0
  after_results
  rfl

/-- It finds the biases as one row. -/
theorem V_v3 (c : Dev nD) : V m c main_v3 = columns (m ((c : Thread nD τ).loc main_arg4)) := by
  change StableHlo.after hostOps0 (fun b => m (c, b)) (Proc.devRef .tc main_v3) = _
  unfold hostOps0
  after_results
  rfl

/-- The first result after the run. -/
theorem tail5 (c : Dev nD) : Pipeline.afterTail₀ cfgs (dats m) 0 (V0 m) [hostOps1] c main_v5
    = result0 (m ((c : Thread nD τ).loc main_arg0))
        (m ((c : Thread nD τ).loc main_arg1))
        (m ((c : Thread nD τ).loc main_arg2))
        (m ((c : Thread nD τ).loc main_arg3))
        (m ((c : Thread nD τ).loc main_arg4)) := by
  have e : Pipeline.withArrays (cfgs 0).spec c (V0 m c) (fun w => (dats m 0 c).arrAt w (cfgs 0).N) (Proc.devRef .tc main_v4_0)
      = (dats m 0 c).arrAt 5 cfg0.N := Pipeline.withArrays_arr (cfgs 0).spec (by decide) c _ _ 5
  change StableHlo.after hostOps1 (Pipeline.withArrays (cfgs 0).spec c (V0 m c) fun w => (dats m 0 c).arrAt w (cfgs 0).N)
    (Proc.devRef .tc main_v5) = _
  unfold hostOps1
  after_results
  rw [e, final5, V_v0, V_v1, V_v2, V_v3, V_main_arg2]
  rfl

/-- The second result after the run. -/
theorem tail6 (c : Dev nD) : Pipeline.afterTail₀ cfgs (dats m) 0 (V0 m) [hostOps1] c main_v6
    = result1 (m ((c : Thread nD τ).loc main_arg0))
        (m ((c : Thread nD τ).loc main_arg1)) := by
  have e : Pipeline.withArrays (cfgs 0).spec c (V0 m c) (fun w => (dats m 0 c).arrAt w (cfgs 0).N) (Proc.devRef .tc main_v4_1)
      = (dats m 0 c).arrAt 6 cfg0.N := Pipeline.withArrays_arr (cfgs 0).spec (by decide) c _ _ 6
  change StableHlo.after hostOps1 (Pipeline.withArrays (cfgs 0).spec c (V0 m c) fun w => (dats m 0 c).arrAt w (cfgs 0).N)
    (Proc.devRef .tc main_v6) = _
  unfold hostOps1
  after_results
  rw [e, final6, V_v0, V_v1]
  rfl

/-- The third result after the run. -/
theorem tail7 (c : Dev nD) : Pipeline.afterTail₀ cfgs (dats m) 0 (V0 m) [hostOps1] c main_v7
    = result2 (m ((c : Thread nD τ).loc main_arg0))
        (m ((c : Thread nD τ).loc main_arg1)) := by
  have e : Pipeline.withArrays (cfgs 0).spec c (V0 m c) (fun w => (dats m 0 c).arrAt w (cfgs 0).N) (Proc.devRef .tc main_v4_2)
      = (dats m 0 c).arrAt 7 cfg0.N := Pipeline.withArrays_arr (cfgs 0).spec (by decide) c _ _ 7
  change StableHlo.after hostOps1 (Pipeline.withArrays (cfgs 0).spec c (V0 m c) fun w => (dats m 0 c).arrAt w (cfgs 0).N)
    (Proc.devRef .tc main_v7) = _
  unfold hostOps1
  after_results
  rw [e, final7, V_v0, V_v1]
  rfl

/-- The run: the three results over the arguments, and the arguments unchanged. -/
theorem run : θ_run defs (onTc (τ := τ) (main (F := Ideal))) ⟨m, fun _ => 0, ρ⟩ fun r => ∀ c : Dev nD,
      r.2.mem ((c : Thread nD τ).loc main_v5) = result0 (m ((c : Thread nD τ).loc main_arg0))
        (m ((c : Thread nD τ).loc main_arg1)) (m ((c : Thread nD τ).loc main_arg2)) (m ((c : Thread nD τ).loc main_arg3))
        (m ((c : Thread nD τ).loc main_arg4))
      ∧ r.2.mem ((c : Thread nD τ).loc main_v6) = result1 (m ((c : Thread nD τ).loc main_arg0))
        (m ((c : Thread nD τ).loc main_arg1))
      ∧ r.2.mem ((c : Thread nD τ).loc main_v7) = result2 (m ((c : Thread nD τ).loc main_arg0))
        (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun _ h c =>
    ⟨((h c).2 main_v5 (Pipeline.mem_restRefs_of main_v5 (by decide) (by decide))).trans (tail5 m c),
      ((h c).2 main_v6 (Pipeline.mem_restRefs_of main_v6 (by decide) (by decide))).trans (tail6 m c),
      ((h c).2 main_v7 (Pipeline.mem_restRefs_of main_v7 (by decide) (by decide))).trans (tail7 m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).1 2).trans (((dats m 0 c).arrAt_in 2 rfl _).trans (V_main_arg2 m c)),
      ((h c).2 main_arg3 (Pipeline.mem_restRefs_of main_arg3 (by decide) (by decide))).trans (W_main_arg3 m (dats m) c),
      ((h c).2 main_arg4 (Pipeline.mem_restRefs_of main_arg4 (by decide) (by decide))).trans (W_main_arg4 m (dats m) c)⟩)
    (run_main m ρ)

end Cert.KernelIdeal.Arrays

end
-- ==== Proof.RefBlock.lean ====
/-
  WHAT THE REFERENCE STORES, read at one index of the whole arrays: each value of the body at a row, over that row of
  quotients alone.
-/
module

public import proofs.«01_k».proof.Proof.Gen.ReferenceIdeal.Frame
public import proofs.«01_k».proof.Proof.Layer
public import Idealize.ShloMosaic.Lib.Pipeline.Value

@[expose] public section

noncomputable section

namespace Cert.ReferenceIdeal.Blocks

open Idealize.ShloMosaic Idealize.ShloMosaic.ValueIdx Cert.Exponent Cert.Row Cert.Layer Cert.ReferenceIdeal.Gen

/-- The zero offsets of a whole array's rectangle. -/
theorem off_zero : (![0, 0] : Fin 2 → ℕ) = fun _ => 0 := by
  funext a; fin_cases a <;> rfl

variable (x0 : Vec Ideal S16384x2048 .f32) (x1 : Vec Ideal S1x2048 .f32) (x2 : Vec Ideal S2048x8192 .fp8e4m3)
  (x3 x4 : Vec Ideal S1x8192 .f32)

/-- The quotients of row `r` of the tokens. -/
def quot (x : Vec Ideal S16384x2048 .f32) (s : Vec Ideal S1x2048 .f32) (r : Fin 16384) (k : Fin 2048) : Ideal .f32 :=
  FloatOps.divf (x (ix2 r k)) (s (ix2 (0 : Fin 1) k))

/-- The quotients, at an index. -/
theorem pay1_apply (r : Fin 16384) (k : Fin 2048) : k0_pay1 x0 x1 (ix2 r k) = quot x0 x1 r k := by
  unfold k0_pay1 quot
  simp only [shapeCast_self, divf]
  rw [broadcastTo_1b_ab_apply]

/-- The exponent, at an index, over the magnitude and the count there. -/
theorem exponent_of (A : FVec Ideal S16384x1 .f32) (n : IVec S16384x1 32) (j : S16384x1.Idx) :
    select (cmpf .oeq A (broadcast S16384x1 (Scalar.ofBits .f32 0x00000000#32))) (broadcast S16384x1 0#32)
      (select (ori (cmpi .eq n (broadcast S16384x1 0#32))
          (cmpf .oeq (mulf A (broadcast S16384x1 (Scalar.ofBits .f32 0x3B124925#32)))
            (broadcast S16384x1 (Scalar.ofBits .f32 0x7F800000#32))))
        (broadcast S16384x1 0#32) (subi n (broadcast S16384x1 126#32))) j
      = countScaleWord (A j) (FloatOps.mulf (A j) (Scalar.ofBits .f32 0x3B124925#32)) (n j) := rfl

/-- The comparison of a row's scaled magnitude with one power of two, at an index. -/
theorem lanes_apply (T : FVec Ideal S16384x1 .f32) (r : Fin 16384) (k : Fin 254) :
    extui 32 (cmpf .oge (broadcastTo S16384x254 T broadcasts_S16384x1_S16384x254)
        (broadcastTo S16384x254 (exp2 (sitofp .f32 (subi (iota .tc S1x254 32 [1] iota_S1x254_d1_w32)
          (broadcast S1x254 126#32)))) broadcasts_S1x254_S16384x254)) natLt_1_32 (ix2 r k)
      = (lane (T (ix2 r (0 : Fin 1))) (BitVec.ofNat 32 k.val)).setWidth 32 := by
  simp only [extui, cmpf]
  rw [broadcastTo_a1_ab, broadcastTo_1b_ab_apply]
  simp only [exp2, sitofp, subi]
  rw [iota_single_apply]
  rfl

/-- The largest magnitude of a row, as the body lays it out. -/
theorem max_apply (r : Fin 16384) (z : Fin 1) :
    shapeCast S16384x1 (multiReduction .maximumf [1] S16384 (absf (k0_pay1 x0 x1)) 0xFF800000#32
      reduces_S16384x2048_S16384 (.inl rfl) rfl) shapeCasts_S16384_S16384x1 (ix2 r z) = rowMax (quot x0 x1 r) :=
  (rowMax_apply (k0_pay1 x0 x1) _ _ _ _ r z).trans (congrArg rowMax (funext fun k => pay1_apply x0 x1 r k))

/-- The count of the powers of two that a row's scaled magnitude reaches. -/
theorem count_apply (T : FVec Ideal S16384x1 .f32) (r : Fin 16384) (z : Fin 1) :
    shapeCast S16384x1 (multiReductionI .add [1] S16384
      (extui 32 (cmpf .oge (broadcastTo S16384x254 T broadcasts_S16384x1_S16384x254)
        (broadcastTo S16384x254 (exp2 (sitofp .f32 (subi (iota .tc S1x254 32 [1] iota_S1x254_d1_w32)
          (broadcast S1x254 126#32)))) broadcasts_S1x254_S16384x254)) natLt_1_32) 0#32
        reduces_S16384x254_S16384 rfl) shapeCasts_S16384_S16384x1 (ix2 r z) = tokenCount (T (ix2 r (0 : Fin 1))) := by
  refine (rowSum_apply _ _ _ _ r z).trans ?_
  unfold tokenCount
  exact congrArg (fun f => Finset.fold IntOp.addi 0#32 f (Finset.univ : Finset (Fin 254))) (funext fun k => lanes_apply T r k)

/-- The count of the powers of two that each row's entry of `T` reaches, as the body lays it out. -/
def countColumn (T : FVec Ideal S16384x1 .f32) : IVec S16384x1 32 :=
  shapeCast S16384x1 (multiReductionI .add [1] S16384
    (extui 32 (cmpf .oge (broadcastTo S16384x254 T broadcasts_S16384x1_S16384x254)
      (broadcastTo S16384x254 (exp2 (sitofp .f32 (subi (iota .tc S1x254 32 [1] iota_S1x254_d1_w32)
        (broadcast S1x254 126#32)))) broadcasts_S1x254_S16384x254)) natLt_1_32) 0#32
      reduces_S16384x254_S16384 rfl) shapeCasts_S16384_S16384x1

/-- Each row's largest magnitude, as the body lays it out. -/
def maxColumn (x : Vec Ideal S16384x2048 .f32) (s : Vec Ideal S1x2048 .f32) : FVec Ideal S16384x1 .f32 :=
  shapeCast S16384x1 (multiReduction .maximumf [1] S16384 (absf (k0_pay1 x s)) 0xFF800000#32
    reduces_S16384x2048_S16384 (.inl rfl) rfl) shapeCasts_S16384_S16384x1

/-- The exponents of the rows' scales, over the magnitudes and the counts. -/
def exponentColumn (A : FVec Ideal S16384x1 .f32) (n : IVec S16384x1 32) : IVec S16384x1 32 :=
  select (cmpf .oeq A (broadcast S16384x1 (Scalar.ofBits .f32 0x00000000#32))) (broadcast S16384x1 0#32)
    (select (ori (cmpi .eq n (broadcast S16384x1 0#32))
        (cmpf .oeq (mulf A (broadcast S16384x1 (Scalar.ofBits .f32 0x3B124925#32)))
          (broadcast S16384x1 (Scalar.ofBits .f32 0x7F800000#32))))
      (broadcast S16384x1 0#32) (subi n (broadcast S16384x1 126#32)))

/-- The exponents the body computes, in these terms. -/
theorem pay2_eq : k0_pay2 x0 x1 = exponentColumn (maxColumn x0 x1)
    (countColumn (mulf (maxColumn x0 x1) (broadcast S16384x1 (Scalar.ofBits .f32 0x3B124925#32)))) := rfl

/-- The largest magnitude of a row, in these terms. -/
theorem maxColumn_apply (r : Fin 16384) (z : Fin 1) : maxColumn x0 x1 (ix2 r z) = rowMax (quot x0 x1 r) := by
  unfold maxColumn
  exact max_apply x0 x1 r z

/-- The count of a row, in these terms. -/
theorem countColumn_apply (T : FVec Ideal S16384x1 .f32) (r : Fin 16384) (z : Fin 1) :
    countColumn T (ix2 r z) = tokenCount (T (ix2 r (0 : Fin 1))) := by
  unfold countColumn
  exact count_apply T r z

/-- The exponent of a row, in these terms. -/
theorem exponentColumn_apply (A : FVec Ideal S16384x1 .f32) (n : IVec S16384x1 32) (j : S16384x1.Idx) :
    exponentColumn A n j = countScaleWord (A j) (FloatOps.mulf (A j) (Scalar.ofBits .f32 0x3B124925#32)) (n j) := by
  unfold exponentColumn
  exact exponent_of A n j

/-- A row's scaled magnitude. -/
theorem scaled_apply (A : FVec Ideal S16384x1 .f32) (j : S16384x1.Idx) :
    mulf A (broadcast S16384x1 (Scalar.ofBits .f32 0x3B124925#32)) j
      = FloatOps.mulf (A j) (Scalar.ofBits .f32 0x3B124925#32) := rfl

/-- The exponent of a row's scale. -/
theorem pay2_apply (r : Fin 16384) (z : Fin 1) :
    k0_pay2 x0 x1 (ix2 r z) = tokenCountExp (rowMax (quot x0 x1 r)) := by
  rw [pay2_eq, exponentColumn_apply, countColumn_apply, scaled_apply, maxColumn_apply, maxColumn_apply]
  unfold tokenCountExp
  exact Eq.refl _

/-- The power of two of a word, at an index. -/
theorem power_of (e : IVec S16384x1 32) (j : S16384x1.Idx) :
    select (cmpi .sgt e (broadcast S16384x1 127#32)) (broadcast S16384x1 (Scalar.ofBits .f32 0x7F800000#32))
      (select (cmpi .slt e (broadcast S16384x1 4294967170#32)) (broadcast S16384x1 (Scalar.ofBits .f32 0x00000000#32))
        (exp2 (sitofp .f32 e))) j = (powExact (e j) : Ideal .f32) := rfl

/-- The scale the body stores, at a row. -/
theorem scale_apply (r : Fin 16384) (z : Fin 1) :
    k0_pay5 (k0_pay3 x0 x1) (k0_pay4 x0 x1) (ix2 r z) = rowScale (quot x0 x1 r) := by
  unfold k0_pay5 k0_pay3 k0_pay4
  refine (power_of (k0_pay2 x0 x1) (ix2 r z)).trans ?_
  rw [pay2_apply]
  exact powExact_scale (rowMax_nonneg _)

/-- The codes the body stores, at an entry. -/
theorem codes_apply (r : Fin 16384) (k : Fin 2048) :
    k0_pay6 (k0_pay1 x0 x1) (k0_pay2 x0 x1) (ix2 r k) = rowCode (quot x0 x1 r) k := by
  unfold k0_pay6
  simp only [truncf, minimumf, maximumf, mulf]
  rw [broadcastTo_a1_ab, power_of, pay1_apply]
  simp only [subi]
  rw [pay2_apply]
  have e := powExact_inverse (rowMax_nonneg (quot x0 x1 r))
  unfold rowCode tokenCode
  rw [← e]
  rfl

/-- The layer's entries the body stores, at an entry. -/
theorem out_apply (r : Fin 16384) (c : Fin 8192) :
    k0_pay7 (k0_pay1 x0 x1) (k0_pay2 x0 x1) (k0_pay3 x0 x1) (k0_pay4 x0 x1) x2 x3 x4 (ix2 r c)
      = rowOut (quot x0 x1 r) (fun k => (x2 (ix2 k c) : EReal)) (x3 (ix2 (0 : Fin 1) c)) (x4 (ix2 (0 : Fin 1) c)) := by
  unfold k0_pay7
  simp only [shapeCast_self]
  refine (entry_apply (k0_pay6 (k0_pay1 x0 x1) (k0_pay2 x0 x1)) x2 (k0_pay5 (k0_pay3 x0 x1) (k0_pay4 x0 x1)) x3 x4 _ _ _
    r c).trans ?_
  rw [scale_apply]
  simp only [codes_apply]
  rfl

/-- The layer's entries. -/
theorem out5_apply (r : Fin 16384) (c : Fin 8192) : out0_5 x0 x1 x2 x3 x4 (ix2 r c)
    = rowOut (quot x0 x1 r) (fun k => (x2 (ix2 k c) : EReal)) (x3 (ix2 (0 : Fin 1) c)) (x4 (ix2 (0 : Fin 1) c)) := by
  have h0 : View.ld x0 r0_0 = x0 := View.ld_unit_zero off_zero _ x0
  have h1 : View.ld x1 r0_1 = x1 := View.ld_unit_zero off_zero _ x1
  have h2 : View.ld x2 r0_2 = x2 := View.ld_unit_zero off_zero _ x2
  have h3 : View.ld x3 r0_3 = x3 := View.ld_unit_zero off_zero _ x3
  have h4 : View.ld x4 r0_3 = x4 := View.ld_unit_zero off_zero _ x4
  unfold out0_5
  rw [View.canon_unit_zero off_zero]
  unfold k0_pay8 k0_pay9 k0_pay10 k0_pay11
  rw [h0, h1, h2, h3, h4]
  exact out_apply x0 x1 x2 x3 x4 r c

/-- The codes. -/
theorem out6_apply (r : Fin 16384) (k : Fin 2048) : out0_6 x0 x1 x2 x3 x4 (ix2 r k) = rowCode (quot x0 x1 r) k := by
  have h0 : View.ld x0 r0_0 = x0 := View.ld_unit_zero off_zero _ x0
  have h1 : View.ld x1 r0_1 = x1 := View.ld_unit_zero off_zero _ x1
  unfold out0_6
  rw [View.canon_unit_zero off_zero]
  unfold k0_pay8 k0_pay9
  rw [h0, h1]
  exact codes_apply x0 x1 r k

/-- The scales. -/
theorem out7_apply (r : Fin 16384) (z : Fin 1) : out0_7 x0 x1 x2 x3 x4 (ix2 r z) = rowScale (quot x0 x1 r) := by
  have h0 : View.ld x0 r0_0 = x0 := View.ld_unit_zero off_zero _ x0
  have h1 : View.ld x1 r0_1 = x1 := View.ld_unit_zero off_zero _ x1
  unfold out0_7
  rw [View.canon_unit_zero off_zero]
  unfold k0_pay10 k0_pay11
  rw [h0, h1]
  exact scale_apply x0 x1 r z

end Cert.ReferenceIdeal.Blocks

end
-- ==== Proof.RefArrays.lean ====
/-
  WHAT THE REFERENCE LEAVES IN ITS RESULT ARRAYS: its one block is the whole of each array, and holds the layer's entries,
  codes and scales.
-/
module

public import proofs.«01_k».proof.Proof.RefBlock
public import proofs.«01_k».proof.Proof.Arrays
public import Idealize.ShloMosaic.Lib.Pipeline.ValueKit

@[expose] public section

noncomputable section

namespace Cert.ReferenceIdeal.Arrays

open Idealize.ShloMosaic hiding ix2 eq_ix2
open Idealize.ShloMosaic.ValueIdx Idealize.ShloMosaic.TcCoe Idealize.SL.Sem
open Cert.Row Cert.Arrays Cert.ReferenceIdeal Cert.ReferenceIdeal.Gen Cert.ReferenceIdeal.Blocks
open Idealize.ShloMosaic.Pipeline (Dat)

variable (m : (ℓ : Loc nD τ sig) → Buf (Elt Ideal) ℓ)

/-- The tokens' block is the whole array. -/
theorem idx0 : ∀ t : Fin cfg0.N, win0_0.index t = ![0, 0] :=
  (by decide +kernel : ∀ t : Fin grid0.N, win0_0.index t = ![0, 0])
/-- The divisors' block is the whole array. -/
theorem idx1 : ∀ t : Fin cfg0.N, win0_1.index t = ![0, 0] :=
  (by decide +kernel : ∀ t : Fin grid0.N, win0_1.index t = ![0, 0])
/-- The weights' block is the whole array. -/
theorem idx2 : ∀ t : Fin cfg0.N, win0_2.index t = ![0, 0] :=
  (by decide +kernel : ∀ t : Fin grid0.N, win0_2.index t = ![0, 0])
/-- The weights' scales' block is the whole array. -/
theorem idx3 : ∀ t : Fin cfg0.N, win0_3.index t = ![0, 0] :=
  (by decide +kernel : ∀ t : Fin grid0.N, win0_3.index t = ![0, 0])
/-- The biases' block is the whole array. -/
theorem idx4 : ∀ t : Fin cfg0.N, win0_4.index t = ![0, 0] :=
  (by decide +kernel : ∀ t : Fin grid0.N, win0_4.index t = ![0, 0])
/-- The entries' block is the whole array. -/
theorem idx5 : ∀ t : Fin cfg0.N, win0_5.index t = ![0, 0] :=
  (by decide +kernel : ∀ t : Fin grid0.N, win0_5.index t = ![0, 0])
/-- The codes' block is the whole array. -/
theorem idx6 : ∀ t : Fin cfg0.N, win0_6.index t = ![0, 0] :=
  (by decide +kernel : ∀ t : Fin grid0.N, win0_6.index t = ![0, 0])
/-- The scales' block is the whole array. -/
theorem idx7 : ∀ t : Fin cfg0.N, win0_7.index t = ![0, 0] :=
  (by decide +kernel : ∀ t : Fin grid0.N, win0_7.index t = ![0, 0])

/-- An entry of the tokens' block. -/
theorem tokens_eq (c : Dev nD) (t : Fin cfg0.N) (i : Fin 16384) (j : Fin 2048) : iblk m c 0 t (ix2 i j) = V m c main_v0 (ix2 i j) := by
  have e : (win0_0.blk t).view.emb (ix2 i j) = ix2 i j := by
    funext a; apply Fin.ext
    match a with
    | ⟨0, _⟩ =>
      have h : ((win0_0.blk t).view.emb (ix2 i j) 0 : ℕ) = i.val := by
        blk_simp [idx0]
        rfl
      exact h
    | ⟨1, _⟩ =>
      have h : ((win0_0.blk t).view.emb (ix2 i j) 1 : ℕ) = j.val := by
        blk_simp [idx0]
        rfl
      exact h
  blk_simp [iblk]
  exact congrArg (V m c main_v0) e

/-- An entry of the divisors' block. -/
theorem divisors_eq (c : Dev nD) (t : Fin cfg0.N) (i : Fin 1) (j : Fin 2048) : iblk m c 1 t (ix2 i j) = V m c main_v1 (ix2 i j) := by
  have e : (win0_1.blk t).view.emb (ix2 i j) = ix2 i j := by
    funext a; apply Fin.ext
    match a with
    | ⟨0, _⟩ =>
      have h : ((win0_1.blk t).view.emb (ix2 i j) 0 : ℕ) = i.val := by
        blk_simp [idx1]
      exact h
    | ⟨1, _⟩ =>
      have h : ((win0_1.blk t).view.emb (ix2 i j) 1 : ℕ) = j.val := by
        blk_simp [idx1]
        rfl
      exact h
  blk_simp [iblk]
  exact congrArg (V m c main_v1) e

/-- An entry of the weights' block. -/
theorem weights_eq (c : Dev nD) (t : Fin cfg0.N) (i : Fin 2048) (j : Fin 8192) : iblk m c 2 t (ix2 i j) = V m c main_arg2 (ix2 i j) := by
  have e : (win0_2.blk t).view.emb (ix2 i j) = ix2 i j := by
    funext a; apply Fin.ext
    match a with
    | ⟨0, _⟩ =>
      have h : ((win0_2.blk t).view.emb (ix2 i j) 0 : ℕ) = i.val := by
        blk_simp [idx2]
        rfl
      exact h
    | ⟨1, _⟩ =>
      have h : ((win0_2.blk t).view.emb (ix2 i j) 1 : ℕ) = j.val := by
        blk_simp [idx2]
        rfl
      exact h
  blk_simp [iblk]
  exact congrArg (V m c main_arg2) e

/-- An entry of the block of the weights' scales. -/
theorem columns_eq (c : Dev nD) (t : Fin cfg0.N) (i : Fin 1) (j : Fin 8192) : iblk m c 3 t (ix2 i j) = V m c main_v2 (ix2 i j) := by
  have e : (win0_3.blk t).view.emb (ix2 i j) = ix2 i j := by
    funext a; apply Fin.ext
    match a with
    | ⟨0, _⟩ =>
      have h : ((win0_3.blk t).view.emb (ix2 i j) 0 : ℕ) = i.val := by
        blk_simp [idx3]
      exact h
    | ⟨1, _⟩ =>
      have h : ((win0_3.blk t).view.emb (ix2 i j) 1 : ℕ) = j.val := by
        blk_simp [idx3]
        rfl
      exact h
  blk_simp [iblk]
  exact congrArg (V m c main_v2) e

/-- An entry of the biases' block. -/
theorem biases_eq (c : Dev nD) (t : Fin cfg0.N) (i : Fin 1) (j : Fin 8192) : iblk m c 4 t (ix2 i j) = V m c main_v3 (ix2 i j) := by
  have e : (win0_4.blk t).view.emb (ix2 i j) = ix2 i j := by
    funext a; apply Fin.ext
    match a with
    | ⟨0, _⟩ =>
      have h : ((win0_4.blk t).view.emb (ix2 i j) 0 : ℕ) = i.val := by
        blk_simp [idx4]
      exact h
    | ⟨1, _⟩ =>
      have h : ((win0_4.blk t).view.emb (ix2 i j) 1 : ℕ) = j.val := by
        blk_simp [idx4]
        rfl
      exact h
  blk_simp [iblk]
  exact congrArg (V m c main_v3) e

/-- The quotients of a row, over the whole arrays. -/
theorem quot_eq (c : Dev nD) (t : Fin cfg0.N) (r : Fin 16384) :
    quot (iblk m c 0 t) (iblk m c 1 t) r = tokenQuot (V m c main_v0) (V m c main_v1) r := by
  funext k
  unfold quot tokenQuot
  rw [tokens_eq m c t r k, divisors_eq m c t 0 k]

/-- After the run the array of entries holds the layer's. -/
theorem final5 (c : Dev nD) : (dats m 0 c).arrAt 5 cfg0.N
    = outs (V m c main_v0) (V m c main_v1) (V m c main_arg2) (V m c main_v2) (V m c main_v3) := by
  refine (dats m 0 c).arrAt_eq_of_covers 5 _ (by decide +kernel) fun t hf y => ?_
  have h0 : (win0_5.blk t).view.emb y 0 = y 0 := Fin.ext (by blk_simp [idx5])
  have h1 : (win0_5.blk t).view.emb y 1 = y 1 := Fin.ext (by blk_simp [idx5])
  blk_simp
  rw [after0_5]
  show out0_5 (iblk m c 0 t) (iblk m c 1 t) (iblk m c 2 t) (iblk m c 3 t) (iblk m c 4 t) y
    = rowOut (tokenQuot (V m c main_v0) (V m c main_v1) ((win0_5.blk t).view.emb y 0))
      (fun k => (V m c main_arg2 (ix2 k ((win0_5.blk t).view.emb y 1)) : EReal))
      (V m c main_v2 (ix2 (0 : Fin 1) ((win0_5.blk t).view.emb y 1)))
      (V m c main_v3 (ix2 (0 : Fin 1) ((win0_5.blk t).view.emb y 1)))
  refine (congrArg _ (eq_ix2 y)).trans ((out5_apply _ _ _ _ _ (y 0) (y 1)).trans ?_)
  rw [quot_eq m c t (y 0), h0, columns_eq m c t 0 (y 1), biases_eq m c t 0 (y 1), h1]
  exact congrArg (fun w => rowOut _ w _ _) (funext fun k => weights_eq m c t k (y 1))

/-- After the run the array of codes holds the layer's. -/
theorem final6 (c : Dev nD) : (dats m 0 c).arrAt 6 cfg0.N = codes (V m c main_v0) (V m c main_v1) := by
  refine (dats m 0 c).arrAt_eq_of_covers 6 _ (by decide +kernel) fun t hf y => ?_
  have h0 : (win0_6.blk t).view.emb y 0 = y 0 := Fin.ext (by blk_simp [idx6])
  have h1 : (win0_6.blk t).view.emb y 1 = y 1 := Fin.ext (by blk_simp [idx6])
  blk_simp
  rw [after0_6]
  show out0_6 (iblk m c 0 t) (iblk m c 1 t) (iblk m c 2 t) (iblk m c 3 t) (iblk m c 4 t) y
    = rowCode (tokenQuot (V m c main_v0) (V m c main_v1) ((win0_6.blk t).view.emb y 0)) ((win0_6.blk t).view.emb y 1)
  refine (congrArg _ (eq_ix2 y)).trans ((out6_apply _ _ _ _ _ (y 0) (y 1)).trans ?_)
  rw [quot_eq m c t (y 0), h0, h1]

/-- After the run the array of scales holds the layer's. -/
theorem final7 (c : Dev nD) : (dats m 0 c).arrAt 7 cfg0.N = scales (V m c main_v0) (V m c main_v1) := by
  refine (dats m 0 c).arrAt_eq_of_covers 7 _ (by decide +kernel) fun t hf y => ?_
  have h0 : (win0_7.blk t).view.emb y 0 = y 0 := Fin.ext (by blk_simp [idx7])
  blk_simp
  rw [after0_7]
  show out0_7 (iblk m c 0 t) (iblk m c 1 t) (iblk m c 2 t) (iblk m c 3 t) (iblk m c 4 t) y
    = rowScale (tokenQuot (V m c main_v0) (V m c main_v1) ((win0_7.blk t).view.emb y 0))
  refine (congrArg _ (eq_ix2 y)).trans ((out7_apply _ _ _ _ _ (y 0) (y 1)).trans ?_)
  rw [quot_eq m c t (y 0), h0]

end Cert.ReferenceIdeal.Arrays

end
-- ==== Proof.RefRun.lean ====
/-
  THE REFERENCE'S RUN: the reshapes before and after the body, and with them the three results over the arguments.
-/
module

public import proofs.«01_k».proof.Proof.RefArrays

@[expose] public section

noncomputable section

namespace Cert.ReferenceIdeal.Arrays

open Idealize.ShloMosaic hiding ix2 eq_ix2
open Idealize.ShloMosaic.ValueIdx Idealize.ShloMosaic.TcCoe Idealize.SL.Sem
open Cert.Row Cert.Arrays Cert.ReferenceIdeal Cert.ReferenceIdeal.Gen Cert.ReferenceIdeal.Blocks
open Idealize.ShloMosaic.Pipeline (Dat)

variable (m : (ℓ : Loc nD τ sig) → Buf (Elt Ideal) ℓ) (ρ : Dev nD → PrngReg)

/-- The body finds the tokens one per row. -/
theorem V_v0 (c : Dev nD) : V m c main_v0 = tokens (m ((c : Thread nD τ).loc main_arg0)) := by
  change StableHlo.after hostOps0 (fun b => m (c, b)) (Proc.devRef .tc main_v0) = _
  unfold hostOps0
  after_results
  rfl

/-- It finds the divisors as one row. -/
theorem V_v1 (c : Dev nD) : V m c main_v1 = divisors (m ((c : Thread nD τ).loc main_arg1)) := by
  change StableHlo.after hostOps0 (fun b => m (c, b)) (Proc.devRef .tc main_v1) = _
  unfold hostOps0
  after_results
  rfl

/-- It finds the weights' scales as one row. -/
theorem V_v2 (c : Dev nD) : V m c main_v2 = columns (m ((c : Thread nD τ).loc main_arg3)) := by
  change StableHlo.after hostOps0 (fun b => m (c, b)) (Proc.devRef .tc main_v2) = _
  unfold hostOps0
  after_results
  rfl

/-- It finds the biases as one row. -/
theorem V_v3 (c : Dev nD) : V m c main_v3 = columns (m ((c : Thread nD τ).loc main_arg4)) := by
  change StableHlo.after hostOps0 (fun b => m (c, b)) (Proc.devRef .tc main_v3) = _
  unfold hostOps0
  after_results
  rfl

/-- The first result after the run. -/
theorem tail5 (c : Dev nD) : Pipeline.afterTail₀ cfgs (dats m) 0 (V0 m) [hostOps1] c main_v5
    = result0 (m ((c : Thread nD τ).loc main_arg0))
        (m ((c : Thread nD τ).loc main_arg1))
        (m ((c : Thread nD τ).loc main_arg2))
        (m ((c : Thread nD τ).loc main_arg3))
        (m ((c : Thread nD τ).loc main_arg4)) := by
  have e : Pipeline.withArrays (cfgs 0).spec c (V0 m c) (fun w => (dats m 0 c).arrAt w (cfgs 0).N) (Proc.devRef .tc main_v4_0)
      = (dats m 0 c).arrAt 5 cfg0.N := Pipeline.withArrays_arr (cfgs 0).spec (by decide) c _ _ 5
  change StableHlo.after hostOps1 (Pipeline.withArrays (cfgs 0).spec c (V0 m c) fun w => (dats m 0 c).arrAt w (cfgs 0).N)
    (Proc.devRef .tc main_v5) = _
  unfold hostOps1
  after_results
  rw [e, final5, V_v0, V_v1, V_v2, V_v3, V_main_arg2]
  rfl

/-- The second result after the run. -/
theorem tail6 (c : Dev nD) : Pipeline.afterTail₀ cfgs (dats m) 0 (V0 m) [hostOps1] c main_v6
    = result1 (m ((c : Thread nD τ).loc main_arg0))
        (m ((c : Thread nD τ).loc main_arg1)) := by
  have e : Pipeline.withArrays (cfgs 0).spec c (V0 m c) (fun w => (dats m 0 c).arrAt w (cfgs 0).N) (Proc.devRef .tc main_v4_1)
      = (dats m 0 c).arrAt 6 cfg0.N := Pipeline.withArrays_arr (cfgs 0).spec (by decide) c _ _ 6
  change StableHlo.after hostOps1 (Pipeline.withArrays (cfgs 0).spec c (V0 m c) fun w => (dats m 0 c).arrAt w (cfgs 0).N)
    (Proc.devRef .tc main_v6) = _
  unfold hostOps1
  after_results
  rw [e, final6, V_v0, V_v1]
  rfl

/-- The third result after the run. -/
theorem tail7 (c : Dev nD) : Pipeline.afterTail₀ cfgs (dats m) 0 (V0 m) [hostOps1] c main_v7
    = result2 (m ((c : Thread nD τ).loc main_arg0))
        (m ((c : Thread nD τ).loc main_arg1)) := by
  have e : Pipeline.withArrays (cfgs 0).spec c (V0 m c) (fun w => (dats m 0 c).arrAt w (cfgs 0).N) (Proc.devRef .tc main_v4_2)
      = (dats m 0 c).arrAt 7 cfg0.N := Pipeline.withArrays_arr (cfgs 0).spec (by decide) c _ _ 7
  change StableHlo.after hostOps1 (Pipeline.withArrays (cfgs 0).spec c (V0 m c) fun w => (dats m 0 c).arrAt w (cfgs 0).N)
    (Proc.devRef .tc main_v7) = _
  unfold hostOps1
  after_results
  rw [e, final7, V_v0, V_v1]
  rfl

/-- The run: the three results over the arguments, and the arguments unchanged. -/
theorem run : θ_run defs (onTc (τ := τ) (main (F := Ideal))) ⟨m, fun _ => 0, ρ⟩ fun r => ∀ c : Dev nD,
      r.2.mem ((c : Thread nD τ).loc main_v5) = result0 (m ((c : Thread nD τ).loc main_arg0))
        (m ((c : Thread nD τ).loc main_arg1)) (m ((c : Thread nD τ).loc main_arg2)) (m ((c : Thread nD τ).loc main_arg3))
        (m ((c : Thread nD τ).loc main_arg4))
      ∧ r.2.mem ((c : Thread nD τ).loc main_v6) = result1 (m ((c : Thread nD τ).loc main_arg0))
        (m ((c : Thread nD τ).loc main_arg1))
      ∧ r.2.mem ((c : Thread nD τ).loc main_v7) = result2 (m ((c : Thread nD τ).loc main_arg0))
        (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun _ h c =>
    ⟨((h c).2 main_v5 (Pipeline.mem_restRefs_of main_v5 (by decide) (by decide))).trans (tail5 m c),
      ((h c).2 main_v6 (Pipeline.mem_restRefs_of main_v6 (by decide) (by decide))).trans (tail6 m c),
      ((h c).2 main_v7 (Pipeline.mem_restRefs_of main_v7 (by decide) (by decide))).trans (tail7 m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).1 2).trans (((dats m 0 c).arrAt_in 2 rfl _).trans (V_main_arg2 m c)),
      ((h c).2 main_arg3 (Pipeline.mem_restRefs_of main_arg3 (by decide) (by decide))).trans (W_main_arg3 m (dats m) c),
      ((h c).2 main_arg4 (Pipeline.mem_restRefs_of main_arg4 (by decide) (by decide))).trans (W_main_arg4 m (dats m) c)⟩)
    (run_main m ρ)

end Cert.ReferenceIdeal.Arrays

end
-- ==== Proof.lean ====
/-
  THE PROOF of `Cert.Claim`: the kernel, its idealization and the reference run to the end and leave their arguments as
  they were; and over the extended reals the kernel's three results — the layer's entries, the codes and the scales — are the
  reference's, for all arguments.
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Skeleton
public import proofs.«01_k».proof.Proof.Gen.ReferenceIdeal.Launch
public import proofs.«01_k».proof.Proof.Gen.ReferenceIdeal.Points
public import proofs.«01_k».proof.Proof.Gen.ReferenceIdeal.Frame
public import proofs.«01_k».proof.Proof.KernelRun
public import proofs.«01_k».proof.Proof.RefRun
public import Idealize.ShloMosaic.Adequacy
public import Idealize.ShloMosaic.Init

@[expose] public section

noncomputable section

namespace Cert.Proof

open Idealize.ShloMosaic Idealize.SL.Sem

/-- Over the extended reals the kernel's three results are the reference's: both runs end with the layer's entries, codes and
    scales of their arguments, and the arguments agree. -/
theorem algebraic : Cert.algebraic_KernelIdeal_ReferenceIdeal := by
  intro m g m' g' _ hagree
  refine ⟨_, _, _, Cert.KernelIdeal.Arrays.run m g, ?_⟩
  refine (θ_run Cert.ReferenceIdeal.defs _ _).mono (fun _ h c => ?_) (Cert.ReferenceIdeal.Arrays.run m' g')
  obtain ⟨e0, e1, e2, e3, e4⟩ := hagree c
  obtain ⟨h5, h6, h7, hrest⟩ := h c
  refine ⟨h5.trans ?_, h6.trans ?_, h7.trans ?_, hrest⟩
  · rw [e0, e1, e2, e3, e4]
  · rw [e0, e1]
  · rw [e0, e1]

/-- All the claims: the three runs that leave their arguments unchanged and every counter at zero, the idealization that
    rewrote nothing, and the equal results. -/
theorem claim : Cert.Claim := ⟨Cert.Kernel.Gen.facts, Cert.KernelIdeal.Gen.facts, Cert.ReferenceIdeal.Gen.facts,
  fun m ρ _ => Cert.Kernel.Gen.frame m ρ, fun m ρ _ => Cert.KernelIdeal.Gen.frame m ρ,
  fun m ρ _ => Cert.ReferenceIdeal.Gen.frame m ρ, trivial, algebraic⟩

end Cert.Proof

end
